-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "mask" .f32 0xFF61B1E6#32 ⊥

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S2x4096x3 : Shape := ⟨3, ![2, 4096, 3]⟩
abbrev S2x4096x128 : Shape := ⟨3, ![2, 4096, 128]⟩
abbrev S30x30 : Shape := ⟨2, ![30, 30]⟩
abbrev S128x131 : Shape := ⟨2, ![128, 131]⟩
abbrev S128 : Shape := ⟨1, ![128]⟩
abbrev S3x256 : Shape := ⟨2, ![3, 256]⟩
abbrev S3 : Shape := ⟨1, ![3]⟩
abbrev S_ : Shape := ⟨0, ![]⟩
abbrev S2x4096 : Shape := ⟨2, ![2, 4096]⟩

class Facts : Prop where
  bcast_S_S2x4096x3 : S_.BroadcastsInDim S2x4096x3 (![] : Fin 0 → Fin S2x4096x3.rank)
  bcast_S_S2x4096x128 : S_.BroadcastsInDim S2x4096x128 (![] : Fin 0 → Fin S2x4096x128.rank)
  reducesTo_S2x4096x128_S2x4096_d2 : S2x4096x128.ReducesTo [2] S2x4096
  h_S_ : 0 < S_.numel
  bcast_S_S2x4096 : S_.BroadcastsInDim S2x4096 (![] : Fin 0 → Fin S2x4096.rank)
  bcast_S_S30x30 : S_.BroadcastsInDim S30x30 (![] : Fin 0 → Fin S30x30.rank)
  bcast_S_S128x131 : S_.BroadcastsInDim S128x131 (![] : Fin 0 → Fin S128x131.rank)
  bcast_S_S128 : S_.BroadcastsInDim S128 (![] : Fin 0 → Fin S128.rank)

variable [Facts]

def fn_part1 {F : FTy → Type} [FloatOps F] (main_arg6 : FVec F S128 .f32) (main_v2 : IVec S2x4096x3 1) (main_v5 : IVec S2x4096x128 1) (main_v9 : IVec S2x4096 1) (main_v12 : IVec S30x30 1) (main_v15 : IVec S30x30 1) (main_v16 : FVec F S128x131 .f32) (main_cst_5 : FVec F S_ .f32) : IVec S2x4096x3 1 × IVec S2x4096x128 1 × IVec S2x4096 1 × IVec S30x30 1 × IVec S30x30 1 × IVec S128x131 1 × IVec S128 1 × IVec S128 1 :=
  let main_v17 : FVec F S128x131 .f32 := broadcastInDim S128x131 ![] bcast_S_S128x131 main_cst_5
  let main_v18 : IVec S128x131 1 := cmpf .olt main_v16 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_cst_7 : FVec F S_ .f32 := constant S_ .f32 0x00000000#32
  let main_v22 : FVec F S128 .f32 := broadcastInDim S128 ![] bcast_S_S128 main_cst_7
  let main_v23 : IVec S128 1 := cmpf .oge main_arg6 main_v22
  (main_v2, main_v5, main_v9, main_v12, main_v15, main_v18, main_v21, main_v23)

def fn {F : FTy → Type} [FloatOps F] (main_arg0 : FVec F S2x4096x3 .f32) (main_arg1 : FVec F S2x4096x128 .f32) (main_arg2 : FVec F S2x4096x128 .f32) (main_arg3 : FVec F S30x30 .f32) (main_arg4 : FVec F S30x30 .f32) (main_arg5 : FVec F S128x131 .f32) (main_arg6 : FVec F S128 .f32) (main_arg7 : FVec F S128 .f32) (main_arg8 : FVec F S3x256 .f32) (main_arg9 : FVec F S3 .f32) : IVec S2x4096x3 1 × IVec S2x4096x128 1 × IVec S2x4096 1 × IVec S30x30 1 × IVec S30x30 1 × IVec S128x131 1 × IVec S128 1 × IVec S128 1 :=
  let main_v0 : FVec F S2x4096x3 .f32 := Host.absf main_arg0
  let main_cst : FVec F S_ .f32 := constant S_ .f32 0x7F800000#32
  let main_v1 : FVec F S2x4096x3 .f32 := broadcastInDim S2x4096x3 ![] bcast_S_S2x4096x3 main_cst
  let main_v2 : IVec S2x4096x3 1 := cmpf .olt main_v0 main_v1
  let main_v3 : FVec F S2x4096x128 .f32 := Host.absf main_arg1
  let main_cst_0 : FVec F S_ .f32 := constant S_ .f32 0x7F800000#32
  let main_v4 : FVec F S2x4096x128 .f32 := broadcastInDim S2x4096x128 ![] bcast_S_S2x4096x128 main_cst_0
  let main_v5 : IVec S2x4096x128 1 := cmpf .olt main_v3 main_v4
  let main_v6 : FVec F S2x4096x128 .f32 := mulf main_arg2 main_arg2
  let main_cst_1 : FVec F S_ .f32 := constant S_ .f32 0x00000000#32
  let main_v7 : FVec F S2x4096 .f32 := (fun x v => Host.reduceAdd x v reducesTo_S2x4096x128_S2x4096_d2 h_S_) main_v6 main_cst_1
  let main_cst_2 : FVec F S_ .f32 := constant S_ .f32 0x00000000#32
  let main_v8 : FVec F S2x4096 .f32 := broadcastInDim S2x4096 ![] bcast_S_S2x4096 main_cst_2
  let main_v9 : IVec S2x4096 1 := cmpf .ogt main_v7 main_v8
  let main_v10 : FVec F S30x30 .f32 := Host.absf main_arg3
  let main_cst_3 : FVec F S_ .f32 := constant S_ .f32 0x7F800000#32
  let main_v11 : FVec F S30x30 .f32 := broadcastInDim S30x30 ![] bcast_S_S30x30 main_cst_3
  let main_v12 : IVec S30x30 1 := cmpf .olt main_v10 main_v11
  let main_v13 : FVec F S30x30 .f32 := Host.absf main_arg4
  let main_cst_4 : FVec F S_ .f32 := constant S_ .f32 0x7F800000#32
  let main_v14 : FVec F S30x30 .f32 := broadcastInDim S30x30 ![] bcast_S_S30x30 main_cst_4
  let main_v15 : IVec S30x30 1 := cmpf .olt main_v13 main_v14
  let main_v16 : FVec F S128x131 .f32 := Host.absf main_arg5
  let main_cst_5 : FVec F S_ .f32 := constant S_ .f32 0x7F800000#32
  fn_part1 (F := F) main_arg6 main_v2 main_v5 main_v9 main_v12 main_v15 main_v16 main_cst_5
-- ==== Kernel.lean ====
abbrev S2x4096x3 : Shape := ⟨3, ![2, 4096, 3]⟩
abbrev S2x4096x128 : Shape := ⟨3, ![2, 4096, 128]⟩
abbrev S30x30 : Shape := ⟨2, ![30, 30]⟩
abbrev S128x131 : Shape := ⟨2, ![128, 131]⟩
abbrev S128 : Shape := ⟨1, ![128]⟩
abbrev S3x256 : Shape := ⟨2, ![3, 256]⟩
abbrev S3 : Shape := ⟨1, ![3]⟩
abbrev S120 : Shape := ⟨1, ![120]⟩
abbrev S_ : Shape := ⟨0, ![]⟩
abbrev S120x1 : Shape := ⟨2, ![120, 1]⟩
abbrev S2x120x3 : Shape := ⟨3, ![2, 120, 3]⟩
abbrev S2x120x128 : Shape := ⟨3, ![2, 120, 128]⟩
abbrev S2x3x4096 : Shape := ⟨3, ![2, 3, 4096]⟩
abbrev S2x128x4096 : Shape := ⟨3, ![2, 128, 4096]⟩
abbrev S2x4096 : Shape := ⟨2, ![2, 4096]⟩
abbrev S2x4096x1 : Shape := ⟨3, ![2, 4096, 1]⟩
abbrev S2x120 : Shape := ⟨2, ![2, 120]⟩
abbrev S2x120x1 : Shape := ⟨3, ![2, 120, 1]⟩
abbrev S2x4096x120 : Shape := ⟨3, ![2, 4096, 120]⟩
abbrev S2x120x4096 : Shape := ⟨3, ![2, 120, 4096]⟩
abbrev S32x32 : Shape := ⟨2, ![32, 32]⟩
abbrev S1 : Shape := ⟨1, ![1]⟩
abbrev S2 : Shape := ⟨1, ![2]⟩
abbrev S128x128 : Shape := ⟨2, ![128, 128]⟩
abbrev S128x3 : Shape := ⟨2, ![128, 3]⟩
abbrev S8x128 : Shape := ⟨2, ![8, 128]⟩
abbrev S3x128 : Shape := ⟨2, ![3, 128]⟩
abbrev S8x1 : Shape := ⟨2, ![8, 1]⟩
abbrev S2x2x128x2 : Shape := ⟨4, ![2, 2, 128, 2]⟩
abbrev S1x120x2048 : Shape := ⟨3, ![1, 120, 2048]⟩
abbrev S1x3x2048 : Shape := ⟨3, ![1, 3, 2048]⟩
abbrev S1x120x128 : Shape := ⟨3, ![1, 120, 128]⟩
abbrev S1x120x3 : Shape := ⟨3, ![1, 120, 3]⟩
abbrev S1x128x2048 : Shape := ⟨3, ![1, 128, 2048]⟩
abbrev S1x1x128x2 : Shape := ⟨4, ![1, 1, 128, 2]⟩
abbrev S120x2048 : Shape := ⟨2, ![120, 2048]⟩
abbrev S3x2048 : Shape := ⟨2, ![3, 2048]⟩
abbrev S120x128 : Shape := ⟨2, ![120, 128]⟩
abbrev S120x3 : Shape := ⟨2, ![120, 3]⟩
abbrev S128x120 : Shape := ⟨2, ![128, 120]⟩
abbrev S128x2048 : Shape := ⟨2, ![128, 2048]⟩
abbrev S32x2048 : Shape := ⟨2, ![32, 2048]⟩
abbrev S2048 : Shape := ⟨1, ![2048]⟩
abbrev S1x2048 : Shape := ⟨2, ![1, 2048]⟩
abbrev S128x1 : Shape := ⟨2, ![128, 1]⟩
abbrev S128x2 : Shape := ⟨2, ![128, 2]⟩
abbrev S2x8x4096 : Shape := ⟨3, ![2, 8, 4096]⟩
abbrev S1x2x128x2 : Shape := ⟨4, ![1, 2, 128, 2]⟩
abbrev S1x8x2048 : Shape := ⟨3, ![1, 8, 2048]⟩
abbrev S2x128x2 : Shape := ⟨3, ![2, 128, 2]⟩
abbrev S1x128x1 : Shape := ⟨3, ![1, 128, 1]⟩
abbrev S1x1x1 : Shape := ⟨3, ![1, 1, 1]⟩
abbrev S8x2048 : Shape := ⟨2, ![8, 2048]⟩

abbrev nBuf : Space → Nat
  | .hbm => 100
  | .vmem => 29
  | .smem => 0
  | _ => 0

abbrev bufTy : (tb : Table) → Fin (tcTables nBuf tb) → BufTy
  | .hbm, ⟨0, _⟩ => ⟨S2x4096x3, .f32⟩
  | .hbm, ⟨1, _⟩ => ⟨S2x4096x128, .f32⟩
  | .hbm, ⟨2, _⟩ => ⟨S2x4096x128, .f32⟩
  | .hbm, ⟨3, _⟩ => ⟨S30x30, .f32⟩
  | .hbm, ⟨4, _⟩ => ⟨S30x30, .f32⟩
  | .hbm, ⟨5, _⟩ => ⟨S128x131, .f32⟩
  | .hbm, ⟨6, _⟩ => ⟨S128, .f32⟩
  | .hbm, ⟨7, _⟩ => ⟨S128, .f32⟩
  | .hbm, ⟨8, _⟩ => ⟨S3x256, .f32⟩
  | .hbm, ⟨9, _⟩ => ⟨S3, .f32⟩
  | .hbm, ⟨10, _⟩ => ⟨S120, .i32⟩
  | .hbm, ⟨11, _⟩ => ⟨S_, .i32⟩
  | .hbm, ⟨12, _⟩ => ⟨S120, .i32⟩
  | .hbm, ⟨13, _⟩ => ⟨S120, .i1⟩
  | .hbm, ⟨14, _⟩ => ⟨S_, .i32⟩
  | .hbm, ⟨15, _⟩ => ⟨S120, .i32⟩
  | .hbm, ⟨16, _⟩ => ⟨S120, .i32⟩
  | .hbm, ⟨17, _⟩ => ⟨S120, .i32⟩
  | .hbm, ⟨18, _⟩ => ⟨S120x1, .i32⟩
  | .hbm, ⟨19, _⟩ => ⟨S2x120x3, .f32⟩
  | .hbm, ⟨20, _⟩ => ⟨S_, .i32⟩
  | .hbm, ⟨21, _⟩ => ⟨S120, .i32⟩
  | .hbm, ⟨22, _⟩ => ⟨S120, .i1⟩
  | .hbm, ⟨23, _⟩ => ⟨S_, .i32⟩
  | .hbm, ⟨24, _⟩ => ⟨S120, .i32⟩
  | .hbm, ⟨25, _⟩ => ⟨S120, .i32⟩
  | .hbm, ⟨26, _⟩ => ⟨S120, .i32⟩
  | .hbm, ⟨27, _⟩ => ⟨S120x1, .i32⟩
  | .hbm, ⟨28, _⟩ => ⟨S2x120x128, .f32⟩
  | .hbm, ⟨29, _⟩ => ⟨S_, .i32⟩
  | .hbm, ⟨30, _⟩ => ⟨S120, .i32⟩
  | .hbm, ⟨31, _⟩ => ⟨S120, .i1⟩
  | .hbm, ⟨32, _⟩ => ⟨S_, .i32⟩
  | .hbm, ⟨33, _⟩ => ⟨S120, .i32⟩
  | .hbm, ⟨34, _⟩ => ⟨S120, .i32⟩
  | .hbm, ⟨35, _⟩ => ⟨S120, .i32⟩
  | .hbm, ⟨36, _⟩ => ⟨S120x1, .i32⟩
  | .hbm, ⟨37, _⟩ => ⟨S2x120x128, .f32⟩
  | .hbm, ⟨38, _⟩ => ⟨S2x3x4096, .f32⟩
  | .hbm, ⟨39, _⟩ => ⟨S2x128x4096, .f32⟩
  | .hbm, ⟨40, _⟩ => ⟨S2x4096x128, .f32⟩
  | .hbm, ⟨41, _⟩ => ⟨S_, .f32⟩
  | .hbm, ⟨42, _⟩ => ⟨S2x4096, .f32⟩
  | .hbm, ⟨43, _⟩ => ⟨S2x4096x1, .f32⟩
  | .hbm, ⟨44, _⟩ => ⟨S2x4096x1, .f32⟩
  | .hbm, ⟨45, _⟩ => ⟨S2x4096x128, .f32⟩
  | .hbm, ⟨46, _⟩ => ⟨S2x4096x128, .f32⟩
  | .hbm, ⟨47, _⟩ => ⟨S2x120x128, .f32⟩
  | .hbm, ⟨48, _⟩ => ⟨S_, .f32⟩
  | .hbm, ⟨49, _⟩ => ⟨S2x120, .f32⟩
  | .hbm, ⟨50, _⟩ => ⟨S2x120x1, .f32⟩
  | .hbm, ⟨51, _⟩ => ⟨S2x120x1, .f32⟩
  | .hbm, ⟨52, _⟩ => ⟨S2x120x128, .f32⟩
  | .hbm, ⟨53, _⟩ => ⟨S2x120x128, .f32⟩
  | .hbm, ⟨54, _⟩ => ⟨S2x4096x120, .f32⟩
  | .hbm, ⟨55, _⟩ => ⟨S2x120x4096, .f32⟩
  | .hbm, ⟨56, _⟩ => ⟨S_, .f32⟩
  | .hbm, ⟨57, _⟩ => ⟨S32x32, .f32⟩
  | .hbm, ⟨58, _⟩ => ⟨S_, .i32⟩
  | .hbm, ⟨59, _⟩ => ⟨S1, .i32⟩
  | .hbm, ⟨60, _⟩ => ⟨S_, .i32⟩
  | .hbm, ⟨61, _⟩ => ⟨S1, .i32⟩
  | .hbm, ⟨62, _⟩ => ⟨S2, .i32⟩
  | .hbm, ⟨63, _⟩ => ⟨S32x32, .f32⟩
  | .hbm, ⟨64, _⟩ => ⟨S_, .f32⟩
  | .hbm, ⟨65, _⟩ => ⟨S32x32, .f32⟩
  | .hbm, ⟨66, _⟩ => ⟨S_, .i32⟩
  | .hbm, ⟨67, _⟩ => ⟨S1, .i32⟩
  | .hbm, ⟨68, _⟩ => ⟨S_, .i32⟩
  | .hbm, ⟨69, _⟩ => ⟨S1, .i32⟩
  | .hbm, ⟨70, _⟩ => ⟨S2, .i32⟩
  | .hbm, ⟨71, _⟩ => ⟨S32x32, .f32⟩
  | .hbm, ⟨72, _⟩ => ⟨S128x128, .f32⟩
  | .hbm, ⟨73, _⟩ => ⟨S128x3, .f32⟩
  | .hbm, ⟨74, _⟩ => ⟨S_, .f32⟩
  | .hbm, ⟨75, _⟩ => ⟨S8x128, .f32⟩
  | .hbm, ⟨76, _⟩ => ⟨S3x128, .f32⟩
  | .hbm, ⟨77, _⟩ => ⟨S_, .i32⟩
  | .hbm, ⟨78, _⟩ => ⟨S1, .i32⟩
  | .hbm, ⟨79, _⟩ => ⟨S8x128, .f32⟩
  | .hbm, ⟨80, _⟩ => ⟨S_, .f32⟩
  | .hbm, ⟨81, _⟩ => ⟨S8x128, .f32⟩
  | .hbm, ⟨82, _⟩ => ⟨S3x128, .f32⟩
  | .hbm, ⟨83, _⟩ => ⟨S_, .i32⟩
  | .hbm, ⟨84, _⟩ => ⟨S1, .i32⟩
  | .hbm, ⟨85, _⟩ => ⟨S8x128, .f32⟩
  | .hbm, ⟨86, _⟩ => ⟨S_, .f32⟩
  | .hbm, ⟨87, _⟩ => ⟨S8x1, .f32⟩
  | .hbm, ⟨88, _⟩ => ⟨S_, .i32⟩
  | .hbm, ⟨89, _⟩ => ⟨S1, .i32⟩
  | .hbm, ⟨90, _⟩ => ⟨S_, .i32⟩
  | .hbm, ⟨91, _⟩ => ⟨S1, .i32⟩
  | .hbm, ⟨92, _⟩ => ⟨S2, .i32⟩
  | .hbm, ⟨93, _⟩ => ⟨S8x1, .f32⟩
  | .hbm, ⟨94, _⟩ => ⟨S2x128x4096, .f32⟩
  | .hbm, ⟨95, _⟩ => ⟨S2x2x128x2, .f32⟩
  | .hbm, ⟨96, _⟩ => ⟨S128x1, .f32⟩
  | .hbm, ⟨97, _⟩ => ⟨S128x1, .f32⟩
  | .hbm, ⟨98, _⟩ => ⟨S2x8x4096, .f32⟩
  | .hbm, ⟨99, _⟩ => ⟨S2x3x4096, .f32⟩
  | .local _ .vmem, ⟨0, _⟩ => ⟨S1x120x2048, .f32⟩
  | .local _ .vmem, ⟨1, _⟩ => ⟨S1x120x2048, .f32⟩
  | .local _ .vmem, ⟨2, _⟩ => ⟨S1x3x2048, .f32⟩
  | .local _ .vmem, ⟨3, _⟩ => ⟨S1x3x2048, .f32⟩
  | .local _ .vmem, ⟨4, _⟩ => ⟨S1x120x128, .f32⟩
  | .local _ .vmem, ⟨5, _⟩ => ⟨S1x120x128, .f32⟩
  | .local _ .vmem, ⟨6, _⟩ => ⟨S1x120x3, .f32⟩
  | .local _ .vmem, ⟨7, _⟩ => ⟨S1x120x3, .f32⟩
  | .local _ .vmem, ⟨8, _⟩ => ⟨S32x32, .f32⟩
  | .local _ .vmem, ⟨9, _⟩ => ⟨S32x32, .f32⟩
  | .local _ .vmem, ⟨10, _⟩ => ⟨S128x128, .f32⟩
  | .local _ .vmem, ⟨11, _⟩ => ⟨S128x3, .f32⟩
  | .local _ .vmem, ⟨12, _⟩ => ⟨S1x128x2048, .f32⟩
  | .local _ .vmem, ⟨13, _⟩ => ⟨S1x128x2048, .f32⟩
  | .local _ .vmem, ⟨14, _⟩ => ⟨S1x1x128x2, .f32⟩
  | .local _ .vmem, ⟨15, _⟩ => ⟨S1x1x128x2, .f32⟩
  | .local _ .vmem, ⟨16, _⟩ => ⟨S1x128x2048, .f32⟩
  | .local _ .vmem, ⟨17, _⟩ => ⟨S1x128x2048, .f32⟩
  | .local _ .vmem, ⟨18, _⟩ => ⟨S1x2x128x2, .f32⟩
  | .local _ .vmem, ⟨19, _⟩ => ⟨S1x2x128x2, .f32⟩
  | .local _ .vmem, ⟨20, _⟩ => ⟨S1x128x2048, .f32⟩
  | .local _ .vmem, ⟨21, _⟩ => ⟨S1x128x2048, .f32⟩
  | .local _ .vmem, ⟨22, _⟩ => ⟨S128x1, .f32⟩
  | .local _ .vmem, ⟨23, _⟩ => ⟨S128x1, .f32⟩
  | .local _ .vmem, ⟨24, _⟩ => ⟨S8x128, .f32⟩
  | .local _ .vmem, ⟨25, _⟩ => ⟨S8x128, .f32⟩
  | .local _ .vmem, ⟨26, _⟩ => ⟨S8x1, .f32⟩
  | .local _ .vmem, ⟨27, _⟩ => ⟨S1x8x2048, .f32⟩
  | .local _ .vmem, ⟨28, _⟩ => ⟨S1x8x2048, .f32⟩
  | _, _ => ⟨S2x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_c_0 : Ref sig .tc := ⟨.hbm, 11, rfl⟩
abbrev main_v0 : Ref sig .tc := ⟨.hbm, 12, rfl⟩
abbrev main_v1 : Ref sig .tc := ⟨.hbm, 13, rfl⟩
abbrev main_c_1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_2 : Ref sig .tc := ⟨.hbm, 20, rfl⟩
abbrev main_v7 : Ref sig .tc := ⟨.hbm, 21, rfl⟩
abbrev main_v8 : Ref sig .tc := ⟨.hbm, 22, rfl⟩
abbrev main_c_3 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_4 : Ref sig .tc := ⟨.hbm, 29, rfl⟩
abbrev main_v14 : Ref sig .tc := ⟨.hbm, 30, rfl⟩
abbrev main_v15 : Ref sig .tc := ⟨.hbm, 31, rfl⟩
abbrev main_c_5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_call0_v0 : Ref sig .tc := ⟨.hbm, 40, rfl⟩
abbrev main_call0_cst : Ref sig .tc := ⟨.hbm, 41, rfl⟩
abbrev main_call0_v1 : Ref sig .tc := ⟨.hbm, 42, rfl⟩
abbrev main_call0_v2 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_call1_v0 : Ref sig .tc := ⟨.hbm, 47, rfl⟩
abbrev main_call1_cst : Ref sig .tc := ⟨.hbm, 48, rfl⟩
abbrev main_call1_v1 : Ref sig .tc := ⟨.hbm, 49, rfl⟩
abbrev main_call1_v2 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst : Ref sig .tc := ⟨.hbm, 56, rfl⟩
abbrev main_v31 : Ref sig .tc := ⟨.hbm, 57, rfl⟩
abbrev main_c_6 : Ref sig .tc := ⟨.hbm, 58, rfl⟩
abbrev main_v32 : Ref sig .tc := ⟨.hbm, 59, rfl⟩
abbrev main_c_7 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_8 : Ref sig .tc := ⟨.hbm, 64, rfl⟩
abbrev main_v36 : Ref sig .tc := ⟨.hbm, 65, rfl⟩
abbrev main_c_9 : Ref sig .tc := ⟨.hbm, 66, rfl⟩
abbrev main_v37 : Ref sig .tc := ⟨.hbm, 67, rfl⟩
abbrev main_c_10 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_11 : Ref sig .tc := ⟨.hbm, 74, rfl⟩
abbrev main_v43 : Ref sig .tc := ⟨.hbm, 75, rfl⟩
abbrev main_v44 : Ref sig .tc := ⟨.hbm, 76, rfl⟩
abbrev main_c_12 : Ref sig .tc := ⟨.hbm, 77, rfl⟩
abbrev main_v45 : Ref sig .tc := ⟨.hbm, 78, rfl⟩
abbrev main_v46 : Ref sig .tc := ⟨.hbm, 79, rfl⟩
abbrev main_cst_13 : Ref sig .tc := ⟨.hbm, 80, rfl⟩
abbrev main_v47 : Ref sig .tc := ⟨.hbm, 81, rfl⟩
abbrev main_v48 : Ref sig .tc := ⟨.hbm, 82, rfl⟩
abbrev main_c_14 : Ref sig .tc := ⟨.hbm, 83, rfl⟩
abbrev main_v49 : Ref sig .tc := ⟨.hbm, 84, rfl⟩
abbrev main_v50 : Ref sig .tc := ⟨.hbm, 85, rfl⟩
abbrev main_cst_15 : Ref sig .tc := ⟨.hbm, 86, rfl⟩
abbrev main_v51 : Ref sig .tc := ⟨.hbm, 87, rfl⟩
abbrev main_c_16 : Ref sig .tc := ⟨.hbm, 88, rfl⟩
abbrev main_v52 : Ref sig .tc := ⟨.hbm, 89, rfl⟩
abbrev main_c_17 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56_0 : Ref sig .tc := ⟨.hbm, 94, rfl⟩
abbrev main_v56_1 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg8_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem8_0 : DmaSem sig := 27
abbrev cc1_sem8_1 : DmaSem sig := 28

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x120x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x120x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x120x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x3 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x128x2 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨2, ![2, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x128x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2x128x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x128x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S128x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S128x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S8x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S8x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S8x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S1x8x2048 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]
-- ==== KernelIdeal.lean ====
variable {F : FTy → Type} [FloatOps F] [Named F]
def κ : String → Option EReal := fun
  | "mask" => some ⊥
  | _ => none
-- ==== ReferenceIdeal.lean ====
abbrev S2x4096x3 : Shape := ⟨3, ![2, 4096, 3]⟩
abbrev S2x4096x128 : Shape := ⟨3, ![2, 4096, 128]⟩
abbrev S30x30 : Shape := ⟨2, ![30, 30]⟩
abbrev S128x131 : Shape := ⟨2, ![128, 131]⟩
abbrev S128 : Shape := ⟨1, ![128]⟩
abbrev S3x256 : Shape := ⟨2, ![3, 256]⟩
abbrev S3 : Shape := ⟨1, ![3]⟩
abbrev S120 : Shape := ⟨1, ![120]⟩
abbrev S_ : Shape := ⟨0, ![]⟩
abbrev S120x1 : Shape := ⟨2, ![120, 1]⟩
abbrev S2x120x3 : Shape := ⟨3, ![2, 120, 3]⟩
abbrev S2x120x128 : Shape := ⟨3, ![2, 120, 128]⟩
abbrev S2x4096 : Shape := ⟨2, ![2, 4096]⟩
abbrev S2x4096x1 : Shape := ⟨3, ![2, 4096, 1]⟩
abbrev S2x120 : Shape := ⟨2, ![2, 120]⟩
abbrev S2x120x1 : Shape := ⟨3, ![2, 120, 1]⟩
abbrev S2x4096x120 : Shape := ⟨3, ![2, 4096, 120]⟩
abbrev S2x4096x30 : Shape := ⟨3, ![2, 4096, 30]⟩
abbrev S2 : Shape := ⟨1, ![2]⟩
abbrev S2x1x1 : Shape := ⟨3, ![2, 1, 1]⟩
abbrev S2x4096x30x1 : Shape := ⟨4, ![2, 4096, 30, 1]⟩
abbrev S2x4096x30x2 : Shape := ⟨4, ![2, 4096, 30, 2]⟩
abbrev S2x4096x30x3 : Shape := ⟨4, ![2, 4096, 30, 3]⟩
abbrev S2x4096x30x128 : Shape := ⟨4, ![2, 4096, 30, 128]⟩
abbrev S2x4096x1x3 : Shape := ⟨4, ![2, 4096, 1, 3]⟩
abbrev S2x4096x30x131 : Shape := ⟨4, ![2, 4096, 30, 131]⟩
abbrev S2x131x30x4096 : Shape := ⟨4, ![2, 131, 30, 4096]⟩
abbrev S2x30x4096x128 : Shape := ⟨4, ![2, 30, 4096, 128]⟩
abbrev S2x128x30x4096 : Shape := ⟨4, ![2, 128, 30, 4096]⟩
abbrev S2x2x64x30x4096 : Shape := ⟨5, ![2, 2, 64, 30, 4096]⟩
abbrev S2x2 : Shape := ⟨2, ![2, 2]⟩
abbrev S2x2x1x1x1 : Shape := ⟨5, ![2, 2, 1, 1, 1]⟩
abbrev S1x128x1x1 : Shape := ⟨4, ![1, 128, 1, 1]⟩
abbrev S2x128x4096 : Shape := ⟨3, ![2, 128, 4096]⟩
abbrev S2x256x4096 : Shape := ⟨3, ![2, 256, 4096]⟩
abbrev S2x3x4096 : Shape := ⟨3, ![2, 3, 4096]⟩
abbrev S1x3x1 : Shape := ⟨3, ![1, 3, 1]⟩

abbrev nBuf : Space → Nat
  | .hbm => 190
  | .vmem => 0
  | .smem => 0
  | _ => 0

abbrev hbmTy0_0 (i : Nat) : BufTy := match i % 128 with
  | 0 => ⟨S2x4096x3, .f32⟩
  | 1 => ⟨S2x4096x128, .f32⟩
  | 2 => ⟨S2x4096x128, .f32⟩
  | 3 => ⟨S30x30, .f32⟩
  | 4 => ⟨S30x30, .f32⟩
  | 5 => ⟨S128x131, .f32⟩
  | 6 => ⟨S128, .f32⟩
  | 7 => ⟨S128, .f32⟩
  | 8 => ⟨S3x256, .f32⟩
  | 9 => ⟨S3, .f32⟩
  | 10 => ⟨S120, .i32⟩
  | 11 => ⟨S_, .i32⟩
  | 12 => ⟨S120, .i32⟩
  | 13 => ⟨S120, .i1⟩
  | 14 => ⟨S_, .i32⟩
  | 15 => ⟨S120, .i32⟩
  | 16 => ⟨S120, .i32⟩
  | 17 => ⟨S120, .i32⟩
  | 18 => ⟨S120x1, .i32⟩
  | 19 => ⟨S2x120x3, .f32⟩
  | 20 => ⟨S_, .i32⟩
  | 21 => ⟨S120, .i32⟩
  | 22 => ⟨S120, .i1⟩
  | 23 => ⟨S_, .i32⟩
  | 24 => ⟨S120, .i32⟩
  | 25 => ⟨S120, .i32⟩
  | 26 => ⟨S120, .i32⟩
  | 27 => ⟨S120x1, .i32⟩
  | 28 => ⟨S2x120x128, .f32⟩
  | 29 => ⟨S_, .i32⟩
  | 30 => ⟨S120, .i32⟩
  | 31 => ⟨S120, .i1⟩
  | 32 => ⟨S_, .i32⟩
  | 33 => ⟨S120, .i32⟩
  | 34 => ⟨S120, .i32⟩
  | 35 => ⟨S120, .i32⟩
  | 36 => ⟨S120x1, .i32⟩
  | 37 => ⟨S2x120x128, .f32⟩
  | 38 => ⟨S2x4096x128, .f32⟩
  | 39 => ⟨S_, .f32⟩
  | 40 => ⟨S2x4096, .f32⟩
  | 41 => ⟨S2x4096x1, .f32⟩
  | 42 => ⟨S2x4096x1, .f32⟩
  | 43 => ⟨S2x4096x128, .f32⟩
  | 44 => ⟨S2x4096x128, .f32⟩
  | 45 => ⟨S2x120x128, .f32⟩
  | 46 => ⟨S_, .f32⟩
  | 47 => ⟨S2x120, .f32⟩
  | 48 => ⟨S2x120x1, .f32⟩
  | 49 => ⟨S2x120x1, .f32⟩
  | 50 => ⟨S2x120x128, .f32⟩
  | 51 => ⟨S2x120x128, .f32⟩
  | 52 => ⟨S2x4096x120, .f32⟩
  | 53 => ⟨S_, .f32⟩
  | 54 => ⟨S2x4096x120, .f32⟩
  | 55 => ⟨S2x4096x120, .f32⟩
  | 56 => ⟨S2x4096x120, .f32⟩
  | 57 => ⟨S2x4096x30, .f32⟩
  | 58 => ⟨S2x4096x30, .i32⟩
  | 59 => ⟨S2, .i32⟩
  | 60 => ⟨S2x1x1, .i32⟩
  | 61 => ⟨S_, .i32⟩
  | 62 => ⟨S2x1x1, .i32⟩
  | 63 => ⟨S2x1x1, .i1⟩
  | 64 => ⟨S_, .i32⟩
  | 65 => ⟨S2x1x1, .i32⟩
  | 66 => ⟨S2x1x1, .i32⟩
  | 67 => ⟨S2x1x1, .i32⟩
  | 68 => ⟨S_, .i32⟩
  | 69 => ⟨S2x4096x30, .i32⟩
  | 70 => ⟨S2x4096x30, .i1⟩
  | 71 => ⟨S_, .i32⟩
  | 72 => ⟨S2x4096x30, .i32⟩
  | 73 => ⟨S2x4096x30, .i32⟩
  | 74 => ⟨S2x4096x30, .i32⟩
  | 75 => ⟨S2x4096x30, .i32⟩
  | 76 => ⟨S2x4096x30x1, .i32⟩
  | 77 => ⟨S2x4096x30x1, .i32⟩
  | 78 => ⟨S2x4096x30x2, .i32⟩
  | 79 => ⟨S2x4096x30x3, .f32⟩
  | 80 => ⟨S_, .i32⟩
  | 81 => ⟨S2x1x1, .i32⟩
  | 82 => ⟨S2x1x1, .i1⟩
  | 83 => ⟨S_, .i32⟩
  | 84 => ⟨S2x1x1, .i32⟩
  | 85 => ⟨S2x1x1, .i32⟩
  | 86 => ⟨S2x1x1, .i32⟩
  | 87 => ⟨S_, .i32⟩
  | 88 => ⟨S2x4096x30, .i32⟩
  | 89 => ⟨S2x4096x30, .i1⟩
  | 90 => ⟨S_, .i32⟩
  | 91 => ⟨S2x4096x30, .i32⟩
  | 92 => ⟨S2x4096x30, .i32⟩
  | 93 => ⟨S2x4096x30, .i32⟩
  | 94 => ⟨S2x4096x30, .i32⟩
  | 95 => ⟨S2x4096x30x1, .i32⟩
  | 96 => ⟨S2x4096x30x1, .i32⟩
  | 97 => ⟨S2x4096x30x2, .i32⟩
  | 98 => ⟨S2x4096x30x128, .f32⟩
  | 99 => ⟨S2x4096x1x3, .f32⟩
  | 100 => ⟨S2x4096x30x3, .f32⟩
  | 101 => ⟨S2x4096x30x3, .f32⟩
  | 102 => ⟨S2x4096x30x131, .f32⟩
  | 103 => ⟨S2x4096x30, .f32⟩
  | 104 => ⟨S_, .f32⟩
  | 105 => ⟨S2x4096x30, .f32⟩
  | 106 => ⟨S2x4096x30, .f32⟩
  | 107 => ⟨S2x4096x30, .f32⟩
  | 108 => ⟨S_, .f32⟩
  | 109 => ⟨S2x4096, .f32⟩
  | 110 => ⟨S_, .f32⟩
  | 111 => ⟨S2x4096, .f32⟩
  | 112 => ⟨S2x4096, .f32⟩
  | 113 => ⟨S2x4096x1, .f32⟩
  | 114 => ⟨S2x4096x30, .f32⟩
  | 115 => ⟨S2x4096x30, .f32⟩
  | 116 => ⟨S2x4096x30, .f32⟩
  | 117 => ⟨S_, .f32⟩
  | 118 => ⟨S2x4096, .f32⟩
  | 119 => ⟨S2x4096x1, .f32⟩
  | 120 => ⟨S2x4096x30, .f32⟩
  | 121 => ⟨S2x4096x30, .f32⟩
  | 122 => ⟨S2x4096x30x1, .f32⟩
  | 123 => ⟨S2x4096x30x131, .f32⟩
  | 124 => ⟨S2x4096x30x131, .f32⟩
  | 125 => ⟨S2x131x30x4096, .f32⟩
  | 126 => ⟨S2x30x4096x128, .f32⟩
  | 127 => ⟨S2x128x30x4096, .f32⟩
  | _ => ⟨S2x4096x3, .f32⟩

abbrev hbmTy0_1 (i : Nat) : BufTy := match i % 128 with
  | 0 => ⟨S2x2x64x30x4096, .f32⟩
  | 1 => ⟨S_, .f32⟩
  | 2 => ⟨S2x2, .f32⟩
  | 3 => ⟨S2x2x1x1x1, .f32⟩
  | 4 => ⟨S_, .f32⟩
  | 5 => ⟨S2x2x1x1x1, .f32⟩
  | 6 => ⟨S2x2x1x1x1, .f32⟩
  | 7 => ⟨S_, .i32⟩
  | 8 => ⟨S_, .f32⟩
  | 9 => ⟨S2x2, .f32⟩
  | 10 => ⟨S2x2x1x1x1, .f32⟩
  | 11 => ⟨S_, .f32⟩
  | 12 => ⟨S2x2x1x1x1, .f32⟩
  | 13 => ⟨S2x2x1x1x1, .f32⟩
  | 14 => ⟨S2x2x64x30x4096, .f32⟩
  | 15 => ⟨S2x2x64x30x4096, .f32⟩
  | 16 => ⟨S2x2x64x30x4096, .f32⟩
  | 17 => ⟨S_, .f32⟩
  | 18 => ⟨S_, .f32⟩
  | 19 => ⟨S_, .f32⟩
  | 20 => ⟨S_, .f32⟩
  | 21 => ⟨S2x2, .f32⟩
  | 22 => ⟨S2x2x1x1x1, .f32⟩
  | 23 => ⟨S2x2x1x1x1, .f32⟩
  | 24 => ⟨S2x2x1x1x1, .f32⟩
  | 25 => ⟨S_, .f32⟩
  | 26 => ⟨S_, .i1⟩
  | 27 => ⟨S_, .f32⟩
  | 28 => ⟨S_, .f32⟩
  | 29 => ⟨S2x2x1x1x1, .f32⟩
  | 30 => ⟨S2x2x1x1x1, .f32⟩
  | 31 => ⟨S2x2x64x30x4096, .f32⟩
  | 32 => ⟨S2x2x64x30x4096, .f32⟩
  | 33 => ⟨S_, .f32⟩
  | 34 => ⟨S2x2x1x1x1, .f32⟩
  | 35 => ⟨S2x2x1x1x1, .f32⟩
  | 36 => ⟨S2x2x1x1x1, .f32⟩
  | 37 => ⟨S2x2x64x30x4096, .f32⟩
  | 38 => ⟨S2x2x64x30x4096, .f32⟩
  | 39 => ⟨S2x128x30x4096, .f32⟩
  | 40 => ⟨S1x128x1x1, .f32⟩
  | 41 => ⟨S2x128x30x4096, .f32⟩
  | 42 => ⟨S2x128x30x4096, .f32⟩
  | 43 => ⟨S1x128x1x1, .f32⟩
  | 44 => ⟨S2x128x30x4096, .f32⟩
  | 45 => ⟨S2x128x30x4096, .f32⟩
  | 46 => ⟨S_, .f32⟩
  | 47 => ⟨S2x128x30x4096, .f32⟩
  | 48 => ⟨S2x128x30x4096, .i1⟩
  | 49 => ⟨S_, .f32⟩
  | 50 => ⟨S2x128x30x4096, .f32⟩
  | 51 => ⟨S2x128x30x4096, .f32⟩
  | 52 => ⟨S2x128x30x4096, .f32⟩
  | 53 => ⟨S_, .f32⟩
  | 54 => ⟨S2x128x4096, .f32⟩
  | 55 => ⟨S2x128x4096, .f32⟩
  | 56 => ⟨S2x256x4096, .f32⟩
  | 57 => ⟨S2x4096x3, .f32⟩
  | 58 => ⟨S2x3x4096, .f32⟩
  | 59 => ⟨S1x3x1, .f32⟩
  | 60 => ⟨S2x3x4096, .f32⟩
  | 61 => ⟨S2x3x4096, .f32⟩
  | _ => ⟨S2x4096x3, .f32⟩

abbrev hbmTy (i : Nat) : BufTy := match i / 128 with
  | 0 => hbmTy0_0 i
  | 1 => hbmTy0_1 i
  | _ => ⟨S2x4096x3, .f32⟩

abbrev bufTy : (tb : Table) → Fin (tcTables nBuf tb) → BufTy
  | .hbm, ⟨i, _⟩ => hbmTy i
  | _, _ => ⟨S2x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_c_0 : Ref sig .tc := ⟨.hbm, 11, rfl⟩
abbrev main_v0 : Ref sig .tc := ⟨.hbm, 12, rfl⟩
abbrev main_v1 : Ref sig .tc := ⟨.hbm, 13, rfl⟩
abbrev main_c_1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_2 : Ref sig .tc := ⟨.hbm, 20, rfl⟩
abbrev main_v7 : Ref sig .tc := ⟨.hbm, 21, rfl⟩
abbrev main_v8 : Ref sig .tc := ⟨.hbm, 22, rfl⟩
abbrev main_c_3 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_4 : Ref sig .tc := ⟨.hbm, 29, rfl⟩
abbrev main_v14 : Ref sig .tc := ⟨.hbm, 30, rfl⟩
abbrev main_v15 : Ref sig .tc := ⟨.hbm, 31, rfl⟩
abbrev main_c_5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_call0_v0 : Ref sig .tc := ⟨.hbm, 38, rfl⟩
abbrev main_call0_cst : Ref sig .tc := ⟨.hbm, 39, rfl⟩
abbrev main_call0_v1 : Ref sig .tc := ⟨.hbm, 40, rfl⟩
abbrev main_call0_v2 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_call1_v0 : Ref sig .tc := ⟨.hbm, 45, rfl⟩
abbrev main_call1_cst : Ref sig .tc := ⟨.hbm, 46, rfl⟩
abbrev main_call1_v1 : Ref sig .tc := ⟨.hbm, 47, rfl⟩
abbrev main_call1_v2 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_values : Ref sig .tc := ⟨.hbm, 57, rfl⟩
abbrev main_indices : Ref sig .tc := ⟨.hbm, 58, rfl⟩
abbrev main_v31 : Ref sig .tc := ⟨.hbm, 59, rfl⟩
abbrev main_v32 : Ref sig .tc := ⟨.hbm, 60, rfl⟩
abbrev main_c_6 : Ref sig .tc := ⟨.hbm, 61, rfl⟩
abbrev main_v33 : Ref sig .tc := ⟨.hbm, 62, rfl⟩
abbrev main_v34 : Ref sig .tc := ⟨.hbm, 63, rfl⟩
abbrev main_c_7 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_c_8 : Ref sig .tc := ⟨.hbm, 68, rfl⟩
abbrev main_v38 : Ref sig .tc := ⟨.hbm, 69, rfl⟩
abbrev main_v39 : Ref sig .tc := ⟨.hbm, 70, rfl⟩
abbrev main_c_9 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_c_10 : Ref sig .tc := ⟨.hbm, 80, rfl⟩
abbrev main_v48 : Ref sig .tc := ⟨.hbm, 81, rfl⟩
abbrev main_v49 : Ref sig .tc := ⟨.hbm, 82, rfl⟩
abbrev main_c_11 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_c_12 : Ref sig .tc := ⟨.hbm, 87, rfl⟩
abbrev main_v53 : Ref sig .tc := ⟨.hbm, 88, rfl⟩
abbrev main_v54 : Ref sig .tc := ⟨.hbm, 89, rfl⟩
abbrev main_c_13 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_call2_cst : Ref sig .tc := ⟨.hbm, 104, rfl⟩
abbrev main_call2_v0 : Ref sig .tc := ⟨.hbm, 105, rfl⟩
abbrev main_v68 : Ref sig .tc := ⟨.hbm, 106, rfl⟩
abbrev main_v69 : Ref sig .tc := ⟨.hbm, 107, rfl⟩
abbrev main_cst_14 : Ref sig .tc := ⟨.hbm, 108, rfl⟩
abbrev main_v70 : Ref sig .tc := ⟨.hbm, 109, rfl⟩
abbrev main_cst_15 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_cst_16 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_cst_17 : Ref sig .tc := ⟨.hbm, 129, rfl⟩
abbrev main_v88 : Ref sig .tc := ⟨.hbm, 130, rfl⟩
abbrev main_v89 : Ref sig .tc := ⟨.hbm, 131, rfl⟩
abbrev main_cst_18 : Ref sig .tc := ⟨.hbm, 132, rfl⟩
abbrev main_v90 : Ref sig .tc := ⟨.hbm, 133, rfl⟩
abbrev main_v91 : Ref sig .tc := ⟨.hbm, 134, rfl⟩
abbrev main_c_19 : Ref sig .tc := ⟨.hbm, 135, rfl⟩
abbrev main_call3_cst : Ref sig .tc := ⟨.hbm, 136, rfl⟩
abbrev main_call3_v0 : Ref sig .tc := ⟨.hbm, 137, rfl⟩
abbrev main_call3_v1 : Ref sig .tc := ⟨.hbm, 138, rfl⟩
abbrev main_call3_cst_0 : Ref sig .tc := ⟨.hbm, 139, rfl⟩
abbrev main_call3_v2 : Ref sig .tc := ⟨.hbm, 140, rfl⟩
abbrev main_call3_v3 : Ref sig .tc := ⟨.hbm, 141, rfl⟩
abbrev main_call3_v4 : Ref sig .tc := ⟨.hbm, 142, rfl⟩
abbrev main_call3_v5 : Ref sig .tc := ⟨.hbm, 143, rfl⟩
abbrev main_call3_v6 : Ref sig .tc := ⟨.hbm, 144, rfl⟩
abbrev main_call3_v7 : Ref sig .tc := ⟨.hbm, 145, rfl⟩
abbrev main_call3_cst_1 : Ref sig .tc := ⟨.hbm, 146, rfl⟩
abbrev main_call3_v8 : Ref sig .tc := ⟨.hbm, 147, rfl⟩
abbrev main_call3_cst_2 : Ref sig .tc := ⟨.hbm, 148, rfl⟩
abbrev main_call3_v9 : Ref sig .tc := ⟨.hbm, 149, rfl⟩
abbrev main_call3_v10 : Ref sig .tc := ⟨.hbm, 150, rfl⟩
abbrev main_call3_v11 : Ref sig .tc := ⟨.hbm, 151, rfl⟩
abbrev main_call3_v12 : Ref sig .tc := ⟨.hbm, 152, rfl⟩
abbrev main_call3_cst_3 : Ref sig .tc := ⟨.hbm, 153, rfl⟩
abbrev main_call3_v13 : Ref sig .tc := ⟨.hbm, 154, rfl⟩
abbrev main_call3_cst_4 : Ref sig .tc := ⟨.hbm, 155, rfl⟩
abbrev main_call3_call0_v0 : Ref sig .tc := ⟨.hbm, 156, rfl⟩
abbrev main_call3_call0_v1 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_cst_20 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_cst_21 : Ref sig .tc := ⟨.hbm, 174, rfl⟩
abbrev main_v107 : Ref sig .tc := ⟨.hbm, 175, rfl⟩
abbrev main_v108 : Ref sig .tc := ⟨.hbm, 176, rfl⟩
abbrev main_cst_22 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩
abbrev main_cst_23 : Ref sig .tc := ⟨.hbm, 181, rfl⟩
abbrev main_v112 : Ref sig .tc := ⟨.hbm, 182, rfl⟩
abbrev main_v113 : Ref sig .tc := ⟨.hbm, 183, rfl⟩
abbrev main_v114 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩
abbrev main_v118 : Ref sig .tc := ⟨.hbm, 188, rfl⟩
abbrev main_v119 : Ref sig .tc := ⟨.hbm, 189, rfl⟩

abbrev nD : Nat := 1
abbrev τ : Topo := Topo.v7x

variable {F : FTy → Type} [FloatOps F]
-- ==== Proof.Pick.lean ====
/-
  THE ROUNDS OF A SELECTION BY REPEATED MAXIMUM, AND A STABLE DESCENDING SORT, on one column of `n` extended reals. A round takes the first row
  that holds the column's maximum and puts ⊥ there. On a column without ⊥ the first `n` rounds take, one after another, the rows that the stable
  sort by descending value lists.
-/
module

public import Idealize.ShloMosaic.Lib.SortPrefix
public import Mathlib.Data.EReal.Basic
public import Mathlib.Order.Fin.Basic
public import Mathlib.Data.Fintype.Card
public import Mathlib.Data.Fintype.Lattice

@[expose] public section

noncomputable section

namespace Cert.Pick

open Idealize.ShloMosaic

variable {n : ℕ} [NeZero n]

/-- Row `p` holds the column's maximum, and no row before it does. -/
def IsFirst (w : Fin n → EReal) (p : Fin n) : Prop := (∀ s, w s ≤ w p) ∧ ∀ s < p, w s ≠ w p

theorem exists_isFirst (w : Fin n → EReal) : ∃ p, IsFirst w p := by
  obtain ⟨q, hq⟩ := Finite.exists_max w
  obtain ⟨p, hp, hmin⟩ := (wellFounded_lt (α := Fin n)).has_min {s | w s = w q} ⟨q, rfl⟩
  refine ⟨p, fun s => ?_, fun s hs h => hmin s ?_ hs⟩
  · rw [show w p = w q from hp]; exact hq s
  · exact h.trans hp

theorem IsFirst.unique {w : Fin n → EReal} {p q : Fin n} (hp : IsFirst w p) (hq : IsFirst w q) : p = q := by
  have e : w p = w q := le_antisymm (hq.1 p) (hp.1 q)
  rcases lt_trichotomy p q with h | h | h
  · exact absurd e (hq.2 p h)
  · exact h
  · exact absurd e.symm (hp.2 q h)

/-- The first row that holds the maximum. -/
def first (w : Fin n → EReal) : Fin n := (exists_isFirst w).choose

theorem isFirst_first (w : Fin n → EReal) : IsFirst w (first w) := (exists_isFirst w).choose_spec

theorem IsFirst.eq_first {w : Fin n → EReal} {p : Fin n} (hp : IsFirst w p) : p = first w := hp.unique (isFirst_first w)

/-- The column before round `r`: the rows taken so far hold ⊥. -/
def work (d : Fin n → EReal) : ℕ → Fin n → EReal
  | 0 => d
  | r + 1 => fun s => if s = first (work d r) then ⊥ else work d r s

/-- The row that round `r` takes. -/
def pick (d : Fin n → EReal) (r : ℕ) : Fin n := first (work d r)

theorem work_succ (d : Fin n → EReal) (r : ℕ) (s : Fin n) :
    work d (r + 1) s = if s = pick d r then ⊥ else work d r s := rfl

theorem work_of_not_picked (d : Fin n → EReal) {s : Fin n} : ∀ {r : ℕ}, (∀ t < r, pick d t ≠ s) → work d r s = d s
  | 0, _ => rfl
  | r + 1, h => by
    rw [work_succ, if_neg (fun e => h r (Nat.lt_succ_self r) e.symm)]
    exact work_of_not_picked d fun t ht => h t (Nat.lt_succ_of_lt ht)

theorem work_of_picked (d : Fin n → EReal) {s : Fin n} {t : ℕ} (hs : pick d t = s) : ∀ {r : ℕ}, t < r → work d r s = ⊥
  | r + 1, h => by
    rw [work_succ]
    split
    · rfl
    · rcases Nat.lt_succ_iff_lt_or_eq.mp h with h | h
      · exact work_of_picked d hs h
      · subst h; exact absurd hs.symm ‹_›

theorem exists_not_picked (d : Fin n → EReal) {r : ℕ} (hr : r < n) : ∃ s, ∀ t < r, pick d t ≠ s := by
  by_contra hne
  push Not at hne
  have h1 : (Finset.univ : Finset (Fin n)) ⊆ (Finset.range r).image (pick d) := fun s _ => by
    obtain ⟨t, ht, e⟩ := hne s
    exact Finset.mem_image.mpr ⟨t, Finset.mem_range.mpr ht, e⟩
  have h2 := (Finset.card_le_card h1).trans Finset.card_image_le
  rw [Finset.card_univ, Fintype.card_fin, Finset.card_range] at h2
  omega

section finite
variable {d : Fin n → EReal} (hd : ∀ s, d s ≠ ⊥)
include hd

/-- A round takes a row that none before it took. -/
theorem pick_new {r : ℕ} (hr : r < n) : ∀ t < r, pick d t ≠ pick d r := fun t ht h => by
  obtain ⟨s, hs⟩ := exists_not_picked d hr
  have h1 := (isFirst_first (work d r)).1 s
  rw [work_of_not_picked d hs, show work d r (first (work d r)) = ⊥ from work_of_picked d h ht, le_bot_iff] at h1
  exact hd s h1

/-- … so the maximum it reads is that row's entry. -/
theorem work_pick {r : ℕ} (hr : r < n) : work d r (pick d r) = d (pick d r) := work_of_not_picked d (pick_new hd hr)

theorem le_pick {r : ℕ} (hr : r < n) {p : Fin n} (hp : ∀ t < r, pick d t ≠ p) : d p ≤ d (pick d r) := by
  rw [← work_of_not_picked d hp, ← work_pick hd hr]
  exact (isFirst_first (work d r)).1 p

theorem pick_le {r : ℕ} (hr : r < n) {p : Fin n} (hp : ∀ t < r, pick d t ≠ p) (he : d p = d (pick d r)) : pick d r ≤ p := by
  by_contra hlt
  refine (isFirst_first (work d r)).2 p (not_le.mp hlt) ?_
  rw [work_of_not_picked d hp]
  exact he.trans (work_pick hd hr).symm

end finite

/-! ## The stable sort -/

/-- The order of the rows by descending value, of equal values the lower row first. -/
def before (d : Fin n → EReal) (a b : Fin n) : Bool := decide (d b < d a) || (decide (d a = d b) && decide (a < b))

omit [NeZero n] in
theorem strictTotalBefore_before (d : Fin n → EReal) : StrictTotalBefore (before d) :=
  StrictTotalBefore.of_key_then_position (fun a b : EReal => decide (b < a)) d (by simp)
    (fun a b c h1 h2 => by simp only [decide_eq_true_eq] at *; exact h2.trans h1)
    (fun a b => by rcases lt_trichotomy a b with h | h | h <;> simp [h])

omit [NeZero n] in
/-- On rows in ascending order, the stable sort by value alone is the sort by value and then row. -/
theorem stableSort_value_eq (d : Fin n → EReal) (l : List (Fin n)) (hl : l.Pairwise (· < ·)) :
    stableSort (fun a b => decide (d b < d a)) l = stableSort (before d) l := by
  induction l with
  | nil => rfl
  | cons a l ih =>
    obtain ⟨ha, hl'⟩ := List.pairwise_cons.mp hl
    unfold stableSort
    rw [ih hl']
    refine insertBefore_congr _ _ a _ fun b hb => ?_
    have hab : a < b := ha b ((perm_stableSort _ l).mem_iff.mp hb)
    simp [before, not_lt.mpr hab.le]

omit [NeZero n] in
theorem sortedFrom_value_eq (d : Fin n → EReal) : sortedFrom (fun a b => decide (d b < d a)) = sortedFrom (before d) := by
  funext k
  unfold sortedFrom
  rw [List.get_of_eq (show sortPositions n _ = sortPositions n _ from stableSort_value_eq d _ (List.pairwise_lt_finRange n))]
  rfl

/-- THE SELECTION IS THE SORT: the row that the stable descending sort puts at place `i` is the row that round `i` takes. -/
theorem sortedFrom_eq_pick {d : Fin n → EReal} (hd : ∀ s, d s ≠ ⊥) (i : Fin n) :
    sortedFrom (fun a b => decide (d b < d a)) i = pick d i.val := by
  rw [sortedFrom_value_eq]
  have key : ∀ (i : Fin n) (p : Fin n), (∀ t < i.val, pick d t ≠ p) → before d p (pick d i.val) = false := fun i p hp => by
    have h1 := le_pick hd i.isLt hp
    simp only [before, Bool.or_eq_false_iff, decide_eq_false_iff_not, not_lt, Bool.and_eq_false_iff]
    refine ⟨h1, ?_⟩
    by_cases he : d p = d (pick d i.val)
    · exact Or.inr (pick_le hd i.isLt hp he)
    · exact Or.inl he
  refine (strictTotalBefore_before d).sortedFrom_eq_of_prefix le_rfl (fun i : Fin n => pick d i.val) (fun i j h => ?_)
    (fun i j hij => key i _ fun t ht => pick_new hd j.isLt t (ht.trans hij)) (fun i p hp => key i p fun t ht => hp ⟨t, ht.trans i.isLt⟩) i
  rcases lt_trichotomy i.val j.val with hlt | heq | hgt
  · exact absurd h (pick_new hd j.isLt _ hlt)
  · exact Fin.ext heq
  · exact absurd h.symm (pick_new hd i.isLt _ hgt)

end Cert.Pick
-- ==== Proof.Finite.lean ====
/-
  REAL NUMBERS AMONG THE EXTENDED REALS. An ideal float is an extended real; a finite input is one that is a real number. This module says
  "is a real number" (`IsReal`) and that the operations of the two programs keep it.
-/
module

public import Idealize.ShloMosaic.PureOps.Ideal
public import Idealize.ShloMosaic.PureOps.Ideal.Laws

@[expose] public section

namespace Cert.Finite

open Idealize.ShloMosaic

/-- The extended real `x` is a real number. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem isReal_iff {x : EReal} : IsReal x ↔ x ≠ ⊥ ∧ x ≠ ⊤ := by
  constructor
  · rintro ⟨r, rfl⟩
    exact ⟨EReal.coe_ne_bot r, EReal.coe_ne_top r⟩
  · rintro ⟨h₁, h₂⟩
    exact ⟨x.toReal, (EReal.coe_toReal h₂ h₁).symm⟩

theorem IsReal.ne_bot {x : EReal} (h : IsReal x) : x ≠ ⊥ := (isReal_iff.mp h).1

theorem IsReal.ne_top {x : EReal} (h : IsReal x) : x ≠ ⊤ := (isReal_iff.mp h).2

theorem IsReal.coe_toReal {x : EReal} (h : IsReal x) : (x.toReal : EReal) = x := EReal.coe_toReal h.ne_top h.ne_bot

theorem IsReal.neg {x : EReal} (hx : IsReal x) : IsReal (-x) := by
  obtain ⟨a, rfl⟩ := hx
  exact ⟨-a, (EReal.coe_neg a).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (Max.max x y) := by
  rcases le_total x y with h | h
  · rwa [max_eq_right h]
  · rwa [max_eq_left h]

/-- A finite sum of real numbers, summed among the extended reals. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem IsReal.sum {ι : Type*} (s : Finset ι) {f : ι → EReal} (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The largest of finitely many (at least one) real numbers. -/
theorem IsReal.sup {ι : Type*} [Fintype ι] [Nonempty ι] {f : ι → EReal} (h : ∀ i, IsReal (f i)) : IsReal (Finset.univ.sup f) := by
  obtain ⟨i, -, hi⟩ := Finset.exists_mem_eq_sup' (Finset.univ_nonempty (α := ι)) f
  rw [← Finset.sup'_eq_sup Finset.univ_nonempty, hi]
  exact h i

/-- Division by a real number other than zero. -/
theorem div_coe_coe (a : ℝ) {b : ℝ} (hb : b ≠ 0) : Ideal.div (a : EReal) (b : EReal) = ((a / b : ℝ) : EReal) := by
  rw [Ideal.div_coe hb, ← EReal.coe_mul]
  congr 1
  ring

theorem IsReal.div {x y : EReal} (hx : IsReal x) (hy : IsReal y) (h0 : y ≠ 0) : IsReal (Ideal.div x y) := by
  obtain ⟨a, rfl⟩ := hx
  obtain ⟨b, rfl⟩ := hy
  have hb : b ≠ 0 := fun e => h0 (by rw [e]; rfl)
  exact ⟨a / b, div_coe_coe a hb⟩

theorem IsReal.exp {x : EReal} (hx : IsReal x) : IsReal (Ideal.exp x) := by
  obtain ⟨a, rfl⟩ := hx
  exact ⟨Real.exp a, Ideal.exp_coe a⟩

/-- The root of a positive real number is a real number other than zero. -/
theorem sqrt_pos {x : EReal} (hx : IsReal x) (h : 0 < x) : IsReal (Ideal.sqrt x) ∧ Ideal.sqrt x ≠ 0 := by
  obtain ⟨a, rfl⟩ := hx
  have ha : 0 < a := EReal.coe_pos.mp h
  rw [Ideal.sqrt_coe]
  refine ⟨?_, ?_⟩
  · split_ifs with h0
    · exact absurd h0 (not_lt.mpr ha.le)
    · exact isReal_coe _
  · split_ifs with h0
    · exact absurd h0 (not_lt.mpr ha.le)
    · exact fun e => (Real.sqrt_pos.mpr ha).ne' (EReal.coe_eq_zero.mp e)

end Cert.Finite
-- ==== Proof.Attention.lean ====
/-
  THE ATTENTION OVER THE NEIGHBOURS. Two 30 × 30 products with a rectifier between them, then a softmax (`att`). The kernel pads the 30 rows
  to 32: with weights zero, and with the value minus infinity before the softmax. The padding changes nothing (`att_padded`), whatever the
  numbers are; and on real numbers the attention is real (`att_isReal`).
-/
module

public import proofs.«01_k».proof.Proof.Finite
public import Mathlib.Data.Fintype.Lattice

@[expose] public section

namespace Cert.Attention

open Idealize.ShloMosaic Cert.Finite

/-- A weight matrix applied to a vector. -/
noncomputable def apply {n : ℕ} (w : Fin n → Fin n → EReal) (x : Fin n → EReal) (s : Fin n) : EReal := ∑ j, w s j * x j

/-- The rectifier. -/
noncomputable def relu {n : ℕ} (x : Fin n → EReal) (s : Fin n) : EReal := max (x s) 0

/-- The softmax, with the largest value subtracted first. -/
noncomputable def softmax {n : ℕ} (x : Fin n → EReal) (s : Fin n) : EReal :=
  Ideal.div (Ideal.exp (x s - Finset.univ.sup x)) (∑ j, Ideal.exp (x j - Finset.univ.sup x))

/-- The values before the softmax. -/
noncomputable def logits {n : ℕ} (w₁ w₂ : Fin n → Fin n → EReal) (t : Fin n → EReal) : Fin n → EReal :=
  apply w₂ (relu (apply w₁ t))

/-- The attention of the 30 neighbours with the values `t`. -/
noncomputable def att (w₁ w₂ : Fin 30 → Fin 30 → EReal) (t : Fin 30 → EReal) : Fin 30 → EReal :=
  softmax (logits w₁ w₂ t)

/-- The row `s` of 30 among the 32. -/
def up (s : Fin 30) : Fin 32 := ⟨s.val, by omega⟩

theorem sum_32 (f : Fin 32 → EReal) : ∑ j, f j = ∑ j : Fin 30, f (up j) + (f 30 + f 31) := by
  rw [Fin.sum_univ_castSucc, Fin.sum_univ_castSucc, add_assoc]
  rfl

theorem fin32_cases (j : Fin 32) : (∃ s : Fin 30, j = up s) ∨ j = 30 ∨ j = 31 := by
  by_cases h : j.val < 30
  · exact Or.inl ⟨⟨j.val, h⟩, rfl⟩
  · right
    have := j.isLt
    rcases (by omega : j.val = 30 ∨ j.val = 31) with h | h
    · exact Or.inl (Fin.ext h)
    · exact Or.inr (Fin.ext h)

/-- A padded weight matrix applied: on the 30 rows, the weight matrix applied to the 30 values. -/
theorem apply_padded {W : Fin 32 → Fin 32 → EReal} {w : Fin 30 → Fin 30 → EReal} (hW : ∀ s j, W (up s) (up j) = w s j)
    (h0 : ∀ s j, 30 ≤ j.val → W s j = 0) (x : Fin 32 → EReal) (s : Fin 30) :
    apply W x (up s) = apply w (fun j => x (up j)) s := by
  unfold apply
  rw [sum_32, h0 _ 30 (by decide), h0 _ 31 (by decide)]
  simp only [hW, zero_mul, add_zero]

/-- A softmax of 32 values whose last two are minus infinity is the softmax of the 30. -/
theorem softmax_padded {X : Fin 32 → EReal} {x : Fin 30 → EReal} (hX : ∀ s, X (up s) = x s) (h0 : ∀ s, 30 ≤ s.val → X s = ⊥)
    (s : Fin 30) : softmax X (up s) = softmax x s := by
  have hsup : Finset.univ.sup X = Finset.univ.sup x := by
    apply le_antisymm
    · refine Finset.sup_le fun j _ => ?_
      rcases fin32_cases j with ⟨t, rfl⟩ | rfl | rfl
      · rw [hX]; exact Finset.le_sup (Finset.mem_univ t)
      · rw [h0 _ (by decide)]; exact bot_le
      · rw [h0 _ (by decide)]; exact bot_le
    · refine Finset.sup_le fun j _ => ?_
      rw [← hX]; exact Finset.le_sup (f := X) (Finset.mem_univ (up j))
  have hb : ∀ y : EReal, Ideal.exp (⊥ - y) = 0 := fun y => by rw [sub_eq_add_neg, EReal.bot_add, Ideal.exp_bot]
  unfold softmax
  rw [sum_32, h0 30 (by decide), h0 31 (by decide), hb, add_zero, add_zero, hsup, hX]
  simp only [hX]

/-- THE PADDING CHANGES NOTHING: the kernel's attention over 32 rows, its weights padded with zeros, the rows past 30 set to minus infinity. -/
theorem att_padded {W₁ W₂ : Fin 32 → Fin 32 → EReal} {w₁ w₂ : Fin 30 → Fin 30 → EReal}
    (h₁ : ∀ s j, W₁ (up s) (up j) = w₁ s j) (z₁ : ∀ s j, 30 ≤ j.val → W₁ s j = 0)
    (h₂ : ∀ s j, W₂ (up s) (up j) = w₂ s j) (z₂ : ∀ s j, 30 ≤ j.val → W₂ s j = 0)
    (T : Fin 32 → EReal) (t : Fin 30 → EReal) (hT : ∀ j, T (up j) = t j) (s : Fin 30) :
    softmax (fun i : Fin 32 => if i.val < 30 then logits W₁ W₂ T i else ⊥) (up s) = att w₁ w₂ t s := by
  refine softmax_padded (fun i => ?_) (fun i hi => if_neg (not_lt.mpr hi)) s
  have hi : (up i).val < 30 := i.isLt
  rw [if_pos hi]
  unfold logits
  rw [apply_padded h₂ z₂]
  congr 1
  funext j
  unfold relu
  rw [apply_padded h₁ z₁]
  simp only [hT]

theorem softmax_isReal {n : ℕ} [NeZero n] {x : Fin n → EReal} (hx : ∀ i, IsReal (x i)) (s : Fin n) : IsReal (softmax x s) := by
  have hm : IsReal (Finset.univ.sup x) := IsReal.sup hx
  refine IsReal.div ((hx s).sub hm).exp (IsReal.sum _ fun i _ => ((hx i).sub hm).exp) ?_
  have hp : ∀ i, 0 < Ideal.exp (x i - Finset.univ.sup x) := fun i => by
    obtain ⟨r, hr⟩ := (hx i).sub hm
    rw [hr, Ideal.exp_coe]
    exact EReal.coe_pos.mpr (Real.exp_pos r)
  exact (lt_of_lt_of_le (hp s) (Finset.single_le_sum (f := fun i => Ideal.exp (x i - Finset.univ.sup x)) (fun i _ => (hp i).le)
    (Finset.mem_univ s))).ne'

theorem att_isReal {w₁ w₂ : Fin 30 → Fin 30 → EReal} {t : Fin 30 → EReal} (h₁ : ∀ i j, IsReal (w₁ i j)) (h₂ : ∀ i j, IsReal (w₂ i j))
    (ht : ∀ i, IsReal (t i)) (s : Fin 30) : IsReal (att w₁ w₂ t s) :=
  softmax_isReal (x := logits w₁ w₂ t) (fun i => IsReal.sum Finset.univ fun j _ => (h₂ i j).mul
    ((IsReal.sum Finset.univ fun k _ => (h₁ j k).mul (ht k)).max isReal_zero)) s

end Cert.Attention
-- ==== Proof.Neighbour.lean ====
/-
  ONE NEIGHBOUR'S VALUE. The kernel weights all the key points once and selects a neighbour by a product with a one-hot column; the reference
  gathers the neighbour, takes its offset and weights that. On real numbers the two are equal (`value_eq`), and the kernel's sum of squares,
  which it takes from the squared attention scattered over the key points, is the sum of the squares of the values (`squares_eq`).
-/
module

public import proofs.«01_k».proof.Proof.Finite

@[expose] public section

namespace Cert.Neighbour

open Idealize.ShloMosaic Cert.Finite

/-- A product with a one-hot column selects its entry. -/
theorem sum_onehot {n : ℕ} (g : Fin n → EReal) (p : Fin n) : ∑ s, g s * (if s = p then 1 else 0) = g p := by
  rw [Finset.sum_eq_single p]
  · rw [if_pos rfl, mul_one]
  · intro s _ hs
    rw [if_neg hs, mul_zero]
  · intro h
    exact absurd (Finset.mem_univ p) h

/-- THE NEIGHBOUR'S VALUE, in one channel: `a` is its attention, `f` and `q` its features and position, `p` the point's position, `u` and `v`
    the channel's weights. -/
theorem value_eq {m n : ℕ} {a : EReal} {f u : Fin m → EReal} {q p v : Fin n → EReal} (ha : IsReal a) (hf : ∀ i, IsReal (f i))
    (hu : ∀ i, IsReal (u i)) (hq : ∀ j, IsReal (q j)) (hp : ∀ j, IsReal (p j)) (hv : ∀ j, IsReal (v j)) :
    a * ((∑ i, u i * f i + ∑ j, v j * q j) - ∑ j, v j * p j)
      = ∑ i, f i * a * u i + ∑ j, (q j - p j) * a * v j := by
  obtain ⟨a, rfl⟩ := ha
  choose f hf using hf
  choose u hu using hu
  choose q hq using hq
  choose p hp using hp
  choose v hv using hv
  simp only [hf, hu, hq, hp, hv, ← EReal.coe_mul, ← EReal.coe_sub, coe_sum, ← EReal.coe_add]
  congr 1
  rw [mul_sub, mul_add, Finset.mul_sum, Finset.mul_sum, Finset.mul_sum, add_sub_assoc, ← Finset.sum_sub_distrib]
  congr 1
  · exact Finset.sum_congr rfl fun i _ => by ring
  · exact Finset.sum_congr rfl fun j _ => by ring

/-- Such a value is real. -/
theorem value_isReal {m n : ℕ} {a : EReal} {f u : Fin m → EReal} {q p v : Fin n → EReal} (ha : IsReal a) (hf : ∀ i, IsReal (f i))
    (hu : ∀ i, IsReal (u i)) (hq : ∀ j, IsReal (q j)) (hp : ∀ j, IsReal (p j)) (hv : ∀ j, IsReal (v j)) :
    IsReal (a * ((∑ i, u i * f i + ∑ j, v j * q j) - ∑ j, v j * p j)) :=
  ha.mul (((IsReal.sum _ fun i _ => (hu i).mul (hf i)).add (IsReal.sum _ fun j _ => (hv j).mul (hq j))).sub
    (IsReal.sum _ fun j _ => (hv j).mul (hp j)))

/-- A sum against numbers scattered over the key points is the sum over the neighbours. -/
theorem sum_scatter {n k : ℕ} (h : Fin n → ℝ) (b : Fin k → ℝ) (pk : Fin k → Fin n) :
    ∑ s, h s * ∑ i, (if s = pk i then b i else 0) = ∑ i, h (pk i) * b i := by
  simp only [Finset.mul_sum, mul_ite, mul_zero]
  rw [Finset.sum_comm]
  refine Finset.sum_congr rfl fun i _ => ?_
  rw [Finset.sum_ite_eq' Finset.univ (pk i)]
  simp

/-- THE SUM OF SQUARES: `g` are the weighted key points, `p` the weighted point, `a` the attention, `pk` the neighbours. -/
theorem squares_eq {n k : ℕ} {g : Fin n → EReal} {a : Fin k → EReal} {p : EReal} (pk : Fin k → Fin n) (hg : ∀ s, IsReal (g s))
    (ha : ∀ i, IsReal (a i)) (hp : IsReal p) :
    (∑ s, g s * g s * ∑ i, (if s = pk i then a i * a i else 0)
        - ((2 : ℝ) : EReal) * p * ∑ s, g s * ∑ i, (if s = pk i then a i * a i else 0))
        + p * p * ∑ s, ∑ i, (if s = pk i then a i * a i else 0)
      = ∑ i, (a i * (g (pk i) - p)) * (a i * (g (pk i) - p)) := by
  obtain ⟨p, rfl⟩ := hp
  choose g hg using hg
  choose a ha using ha
  have hc : ∀ s i, (if s = pk i then ((a i * a i : ℝ) : EReal) else 0) = ((if s = pk i then a i * a i else 0 : ℝ) : EReal) := by
    intro s i
    split_ifs
    · rfl
    · rfl
  simp only [hg, ha, hc, ← EReal.coe_mul, ← EReal.coe_sub, coe_sum, ← EReal.coe_add]
  congr 1
  rw [sum_scatter (fun s => g s * g s), sum_scatter g]
  have h1 := sum_scatter (fun _ => (1 : ℝ)) (fun i => a i * a i) pk
  simp only [one_mul] at h1
  rw [h1, Finset.mul_sum, Finset.mul_sum, ← Finset.sum_sub_distrib, ← Finset.sum_add_distrib]
  exact Finset.sum_congr rfl fun i _ => by ring

end Cert.Neighbour
-- ==== Proof.Spec.lean ====
/-
  ONE POINT'S THIRTY NEIGHBOURS. What both programs compute of a point before the normalisation, as plain functions: the attention of its thirty
  nearest key points, and the value of a neighbour in a channel. `sim` are the point's similarities to the 120 key points, `w₁` and `w₂` the
  attention's weights, `u` and `v` the channel weights of features and positions, `f` and `q` the key points' features and positions, `x` the
  point's position.
-/
module

public import proofs.«01_k».proof.Proof.Pick
public import proofs.«01_k».proof.Proof.Attention
public import proofs.«01_k».proof.Proof.Neighbour

@[expose] public section

noncomputable section

namespace Cert.Spec

open Idealize.ShloMosaic Cert.Finite

/-- The distances, with the sign that makes the nearest the largest. -/
def dist (sim : Fin 120 → EReal) (s : Fin 120) : EReal := sim s - 1

/-- The `k`-th nearest key point. -/
def near (sim : Fin 120 → EReal) (k : ℕ) : Fin 120 := Pick.pick (dist sim) k

/-- The attention of the thirty nearest. -/
def attn (w₁ w₂ : Fin 30 → Fin 30 → EReal) (sim : Fin 120 → EReal) : Fin 30 → EReal :=
  Attention.att w₁ w₂ fun k => dist sim (near sim k.val)

/-- The value of the `k`-th nearest in a channel. -/
def value (w₁ w₂ : Fin 30 → Fin 30 → EReal) (sim : Fin 120 → EReal) (u : Fin 128 → EReal) (v : Fin 3 → EReal)
    (f : Fin 120 → Fin 128 → EReal) (q : Fin 120 → Fin 3 → EReal) (x : Fin 3 → EReal) (k : Fin 30) : EReal :=
  attn w₁ w₂ sim k * ((∑ i, u i * f (near sim k.val) i + ∑ j, v j * q (near sim k.val) j) - ∑ j, v j * x j)

section
variable {w₁ w₂ : Fin 30 → Fin 30 → EReal} {sim : Fin 120 → EReal} (h₁ : ∀ i j, IsReal (w₁ i j)) (h₂ : ∀ i j, IsReal (w₂ i j))
  (hs : ∀ s, IsReal (sim s))
include hs

theorem dist_isReal (s : Fin 120) : IsReal (dist sim s) := (hs s).sub isReal_one

theorem dist_ne_bot (s : Fin 120) : dist sim s ≠ ⊥ := (dist_isReal hs s).ne_bot

include h₁ h₂

theorem attn_isReal (k : Fin 30) : IsReal (attn w₁ w₂ sim k) := Attention.att_isReal h₁ h₂ (fun _ => dist_isReal hs _) k

theorem value_isReal {u : Fin 128 → EReal} {v : Fin 3 → EReal} {f : Fin 120 → Fin 128 → EReal} {q : Fin 120 → Fin 3 → EReal} {x : Fin 3 → EReal}
    (hu : ∀ i, IsReal (u i)) (hv : ∀ j, IsReal (v j)) (hf : ∀ s i, IsReal (f s i)) (hq : ∀ s j, IsReal (q s j)) (hx : ∀ j, IsReal (x j))
    (k : Fin 30) : IsReal (value w₁ w₂ sim u v f q x k) :=
  Neighbour.value_isReal (attn_isReal h₁ h₂ hs k) (hf _) hu (hq _) hx hv

end

end Cert.Spec
-- ==== Proof.Norm.lean ====
/-
  THE GROUP NORM'S MATHEMATICS. The kernel keeps of every channel the largest value over the neighbours, the sum and the sum of squares; the
  reference norms every value and takes the maximum last. Here: the two variances are one number (`var_identity`), it is not negative, and
  scaling, shifting and the leaky rectifier keep the order, so the maximum may be taken first (`norm_max`).
-/
module

public import proofs.«01_k».proof.Proof.Finite
public import Mathlib.Data.Fintype.Lattice

@[expose] public section

namespace Cert.Norm

open Idealize.ShloMosaic Cert.Finite

/-- The mean of the squared deviations is the mean of the squares less the square of the mean. -/
theorem var_identity {ι : Type*} [Fintype ι] (f : ι → ℝ) (N : ℝ) (hN : N ≠ 0) (hc : (Fintype.card ι : ℝ) = N) :
    (∑ i, (f i - (∑ j, f j) / N) * (f i - (∑ j, f j) / N)) / N
      = (∑ i, f i * f i) / N - ((∑ j, f j) / N) * ((∑ j, f j) / N) := by
  set μ := (∑ j, f j) / N with hμ
  have hS : ∑ j, f j = μ * N := by rw [hμ]; field_simp
  have h1 : ∀ i, (f i - μ) * (f i - μ) = f i * f i - 2 * μ * f i + μ * μ := fun i => by ring
  have h2 : ∑ i, (f i - μ) * (f i - μ) = ∑ i, f i * f i - 2 * μ * ∑ i, f i + N * (μ * μ) := by
    rw [Finset.sum_congr rfl fun i _ => h1 i, Finset.sum_add_distrib, Finset.sum_sub_distrib, ← Finset.mul_sum, Finset.sum_const,
      Finset.card_univ, nsmul_eq_mul, hc]
  rw [h2, hS]
  field_simp
  ring

/-- A mean of squared deviations is not negative. -/
theorem var_nonneg {ι : Type*} [Fintype ι] (f : ι → ℝ) (μ N : ℝ) (hN : 0 < N) :
    0 ≤ (∑ i, (f i - μ) * (f i - μ)) / N :=
  div_nonneg (Finset.sum_nonneg fun i _ => mul_self_nonneg _) hN.le

/-- The leaky rectifier of slope `l`. -/
noncomputable def leaky (l x : EReal) : EReal := if 0 ≤ x then x else l * x

theorem leaky_mono {l : ℝ} (hl : 0 < l) : Monotone (leaky l) := by
  intro x y hxy
  have hl' : (0 : EReal) ≤ (l : EReal) := EReal.coe_nonneg.mpr hl.le
  unfold leaky
  by_cases hx : 0 ≤ x
  · rw [if_pos hx, if_pos (hx.trans hxy)]; exact hxy
  · rw [if_neg hx]
    by_cases hy : 0 ≤ y
    · rw [if_pos hy]
      have : (l : EReal) * x ≤ (l : EReal) * 0 := mul_le_mul_of_nonneg_left (le_of_lt (not_le.mp hx)) hl'
      rw [mul_zero] at this
      exact this.trans hy
    · rw [if_neg hy]; exact mul_le_mul_of_nonneg_left hxy hl'

/-- A function that keeps the order takes the maximum to the maximum. -/
theorem mono_sup {ι : Type*} [Fintype ι] [Nonempty ι] {g : EReal → EReal} (hg : Monotone g) (f : ι → EReal) :
    g (Finset.univ.sup f) = Finset.univ.sup fun i => g (f i) := by
  obtain ⟨i, -, hi⟩ := Finset.exists_mem_eq_sup' (Finset.univ_nonempty (α := ι)) f
  rw [Finset.sup'_eq_sup] at hi
  apply le_antisymm
  · rw [hi]
    exact Finset.le_sup (f := fun i => g (f i)) (Finset.mem_univ i)
  · exact Finset.sup_le fun j _ => hg (Finset.le_sup (f := f) (Finset.mem_univ j))

/-- The reciprocal of the root of a positive number. -/
theorem rsqrt_pos {v : ℝ} (hv : 0 < v) : Ideal.rsqrt (v : EReal) = (((Real.sqrt v)⁻¹ : ℝ) : EReal) := by
  rw [Ideal.rsqrt_coe, if_neg (not_lt.mpr hv.le), if_neg hv.ne']

/-- The root of a positive number. -/
theorem sqrt_coe_pos {v : ℝ} (hv : 0 < v) : Ideal.sqrt (v : EReal) = ((Real.sqrt v : ℝ) : EReal) := by
  rw [Ideal.sqrt_coe, if_neg (not_lt.mpr hv.le)]

/-- ONE VALUE NORMED: the kernel's scale and shift are the reference's deviation over the deviation's root, weighted and shifted. -/
theorem norm_one (c w μ v : ℝ) (hv : 0 < v) (β : EReal) :
    (c : EReal) * ((w : EReal) * Ideal.rsqrt (v : EReal)) + (β - (μ : EReal) * ((w : EReal) * Ideal.rsqrt (v : EReal)))
      = Ideal.div ((c : EReal) - (μ : EReal)) (Ideal.sqrt (v : EReal)) * (w : EReal) + β := by
  have hs : Real.sqrt v ≠ 0 := (Real.sqrt_pos.mpr hv).ne'
  rw [rsqrt_pos hv, sqrt_coe_pos hv, ← EReal.coe_sub, div_coe_coe _ hs, ← EReal.coe_mul, ← EReal.coe_mul, ← EReal.coe_mul, ← EReal.coe_mul,
    sub_eq_add_neg, ← EReal.coe_neg, add_comm β, ← add_assoc, ← EReal.coe_add]
  congr 2
  field_simp
  ring

/-- THE MAXIMUM MAY BE TAKEN FIRST: the kernel's scale of the neighbours' maximum is the maximum of the reference's normed values. -/
theorem norm_max {ι : Type*} [Fintype ι] [Nonempty ι] (c : ι → ℝ) (w μ v l : ℝ) (hw : 0 ≤ w) (hv : 0 < v) (hl : 0 < l) (β : EReal) :
    leaky l (Finset.univ.sup (fun k => (c k : EReal)) * ((w : EReal) * Ideal.rsqrt (v : EReal))
        + (β - (μ : EReal) * ((w : EReal) * Ideal.rsqrt (v : EReal))))
      = Finset.univ.sup fun k =>
          leaky l (Ideal.div ((c k : EReal) - (μ : EReal)) (Ideal.sqrt (v : EReal)) * (w : EReal) + β) := by
  have hs : (0 : EReal) ≤ (w : EReal) * Ideal.rsqrt (v : EReal) := by
    rw [rsqrt_pos hv, ← EReal.coe_mul]
    exact EReal.coe_nonneg.mpr (mul_nonneg hw (inv_nonneg.mpr (Real.sqrt_nonneg v)))
  have hm : Monotone fun x : EReal => leaky l (x * ((w : EReal) * Ideal.rsqrt (v : EReal))
      + (β - (μ : EReal) * ((w : EReal) * Ideal.rsqrt (v : EReal)))) := by
    intro x y hxy
    exact leaky_mono hl (add_le_add_left (mul_le_mul_of_nonneg_right hxy hs) _)
  rw [mono_sup hm]
  refine Finset.sup_congr rfl fun k _ => ?_
  rw [norm_one _ _ _ _ hv]

end Cert.Norm
-- ==== Proof.Gathers.lean ====
/-
  THE GATHERS, at an index: the key points out of the points (one row per key point), and a point's neighbours out of the key points (one row per
  batch, point and neighbour). Both read a whole row of features at indices that are read signed and clamped.
-/
module

public import Idealize.ShloMosaic.PureOps
public import Idealize.ShloMosaic.Lib.Pointwise

@[expose] public section

namespace Cert.Gathers

open Idealize.ShloMosaic

variable {α : Type} {C : ℕ}

/-- The row that an index word names among `n + 1`. -/
def rowOf (n : ℕ) (x : BitVec 32) : Fin (n + 1) := ⟨min x.toInt.toNat n, by omega⟩

/-- The key points: row `s` of the result is the row of the operand that index word `s` names. -/
theorem rows (d : GatherDims ⟨3, ![2, 4096, C]⟩ ⟨2, ![120, 1]⟩ ⟨3, ![2, 120, C]⟩) (h1 : d.offsetDims = [0, 2]) (h2 : d.collapsedSliceDims = [1])
    (h3 : d.operandBatchingDims = []) (h4 : d.startIndicesBatchingDims = []) (h5 : d.startIndexMap = [1]) (h6 : d.indexVectorDim = 1)
    (h7 : d.sliceSizes = ![2, 1, C]) (x : (⟨3, ![2, 4096, C]⟩ : Shape).Idx → α) (idx : IVec ⟨2, ![120, 1]⟩ 32) (b : Fin 2) (s : Fin 120) (c : Fin C) :
    Host.gather d x idx (ix3 b s c) = x (ix3 b (rowOf 4095 (idx (ix2 s 0))) c) := by
  obtain ⟨d1, d2, d3, d4, d5, d6, d7, wf⟩ := d
  dsimp only at h1 h2 h3 h4 h5 h6 h7
  subst h1 h2 h3 h4 h5 h6 h7
  unfold Host.gather
  congr 1
  funext a
  apply Fin.ext
  show GatherDims.start _ _ idx a + GatherDims.batchCoord _ _ a + GatherDims.offCoord _ _ a = _
  rw [GatherDims.batchCoord_eq_zero _ _ _ List.not_mem_nil, Nat.add_zero]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · unfold GatherDims.start
    rw [dif_neg (show (0 : Fin 3) ∉ [(1 : Fin 3)] by decide), Nat.zero_add]
    rfl
  · rw [GatherDims.offCoord_eq_zero _ _ _ (fun h => ((GatherDims.mem_sKept _ _).mp h).1 (List.mem_singleton.mpr rfl)), Nat.add_zero]
    unfold GatherDims.start
    rw [dif_pos (show (1 : Fin 3) ∈ [(1 : Fin 3)] from List.mem_singleton.mpr rfl)]
    refine congrArg (fun j => min (idx j).toInt.toNat 4095) (funext fun b' => Fin.ext ?_)
    match b' with
    | ⟨0, _⟩ => rfl
    | ⟨1, _⟩ => rfl
  · unfold GatherDims.start
    rw [dif_neg (show (2 : Fin 3) ∉ [(1 : Fin 3)] by decide), Nat.zero_add]
    rfl

/-- The neighbours: row `(b, n, k)` of the result is the row of the operand that the index word's two components name. -/
theorem pairs (d : GatherDims ⟨3, ![2, 120, C]⟩ ⟨4, ![2, 4096, 30, 2]⟩ ⟨4, ![2, 4096, 30, C]⟩) (h1 : d.offsetDims = [3]) (h2 : d.collapsedSliceDims = [0, 1])
    (h3 : d.operandBatchingDims = []) (h4 : d.startIndicesBatchingDims = []) (h5 : d.startIndexMap = [0, 1]) (h6 : d.indexVectorDim = 3)
    (h7 : d.sliceSizes = ![1, 1, C]) (x : (⟨3, ![2, 120, C]⟩ : Shape).Idx → α) (idx : IVec ⟨4, ![2, 4096, 30, 2]⟩ 32) (b : Fin 2) (n : Fin 4096)
    (k : Fin 30) (c : Fin C) :
    Host.gather d x idx (ix4 b n k c) = x (ix3 (rowOf 1 (idx (ix4 b n k 0))) (rowOf 119 (idx (ix4 b n k 1))) c) := by
  obtain ⟨d1, d2, d3, d4, d5, d6, d7, wf⟩ := d
  dsimp only at h1 h2 h3 h4 h5 h6 h7
  subst h1 h2 h3 h4 h5 h6 h7
  unfold Host.gather
  congr 1
  funext a
  apply Fin.ext
  show GatherDims.start _ _ idx a + GatherDims.batchCoord _ _ a + GatherDims.offCoord _ _ a = _
  rw [GatherDims.batchCoord_eq_zero _ _ _ List.not_mem_nil, Nat.add_zero]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (show (0 : Fin 3) ∈ [(0 : Fin 3), 1] by decide)), Nat.add_zero]
    unfold GatherDims.start
    rw [dif_pos (show (0 : Fin 3) ∈ [(0 : Fin 3), 1] by decide)]
    refine congrArg (fun j => min (idx j).toInt.toNat 1) (funext fun b' => Fin.ext ?_)
    match b' with
    | ⟨0, _⟩ => rfl
    | ⟨1, _⟩ => rfl
    | ⟨2, _⟩ => rfl
    | ⟨3, _⟩ => rfl
  · rw [GatherDims.offCoord_eq_zero _ _ _ (fun h => ((GatherDims.mem_sKept _ _).mp h).1 (show (1 : Fin 3) ∈ [(0 : Fin 3), 1] by decide)), Nat.add_zero]
    unfold GatherDims.start
    rw [dif_pos (show (1 : Fin 3) ∈ [(0 : Fin 3), 1] by decide)]
    refine congrArg (fun j => min (idx j).toInt.toNat 119) (funext fun b' => Fin.ext ?_)
    match b' with
    | ⟨0, _⟩ => rfl
    | ⟨1, _⟩ => rfl
    | ⟨2, _⟩ => rfl
    | ⟨3, _⟩ => rfl
  · unfold GatherDims.start
    rw [dif_neg (show (2 : Fin 3) ∉ [(0 : Fin 3), 1] by decide), Nat.zero_add]
    rfl

end Cert.Gathers
-- ==== Proof.Global.lean ====
/-
  THE WHOLE COMPUTATION as plain functions of the ten arguments: what each program's result is said to be.
-/
module

public import proofs.«01_k».proof.Proof.Spec
public import proofs.«01_k».proof.Proof.Norm
public import proofs.«01_k».proof.Proof.Gathers
public import proofs.«01_k».proof.KernelIdeal

@[expose] public section

noncomputable section

namespace Cert.Global

open Idealize.ShloMosaic Cert.Finite

/-- The point that key point `s` is: the table's word, wrapped when negative, clamped to the points. -/
def key (s : Fin 120) : Fin 4096 :=
  Gathers.rowOf 4095 (Scalar.select (IntOp.cmpi .slt (Cert.KernelIdeal.lit0 (Cert.KernelIdeal.S120.rowMajor (ix1 s))) 0#32) (IntOp.addi (Cert.KernelIdeal.lit0 (Cert.KernelIdeal.S120.rowMajor (ix1 s))) 4096#32) (Cert.KernelIdeal.lit0 (Cert.KernelIdeal.S120.rowMajor (ix1 s))))

/-- Channel `i` of the features among the 131 input channels of the convolution. -/
def lo (i : Fin 128) : Fin 131 := ⟨i.val, by omega⟩
/-- Coordinate `j` of the position among them. -/
def hi (j : Fin 3) : Fin 131 := ⟨128 + j.val, by omega⟩
/-- The attended channel `o` among the 256 input channels of the last layer. -/
def left (o : Fin 128) : Fin 256 := ⟨o.val, by omega⟩
/-- The point's own feature `i` among them. -/
def right (i : Fin 128) : Fin 256 := ⟨128 + i.val, by omega⟩

/-- The arguments of both programs. -/
structure Args where
  points : Fin 2 → Fin 4096 → Fin 3 → EReal
  feature : Fin 2 → Fin 4096 → Fin 128 → EReal
  inst : Fin 2 → Fin 4096 → Fin 128 → EReal
  w₁ : Fin 30 → Fin 30 → EReal
  w₂ : Fin 30 → Fin 30 → EReal
  conv : Fin 128 → Fin 131 → EReal
  gw : Fin 128 → EReal
  gb : Fin 128 → EReal
  ow : Fin 3 → Fin 256 → EReal
  ob : Fin 3 → EReal

namespace Args
variable (a : Args)

/-- The sum of the squares of a point's instance feature. -/
def sq (b : Fin 2) (n : Fin 4096) : EReal := ∑ c, a.inst b n c * a.inst b n c

/-- The instance feature over its length. -/
def unit (b : Fin 2) (n : Fin 4096) (c : Fin 128) : EReal := Ideal.div (a.inst b n c) (Ideal.sqrt (a.sq b n))

/-- The similarity of a point to a key point. -/
def sim (b : Fin 2) (n : Fin 4096) (s : Fin 120) : EReal := ∑ c, a.unit b n c * a.unit b (key s) c

/-- The value of a point's `k`-th nearest key point in a channel. -/
def value (b : Fin 2) (o : Fin 128) (n : Fin 4096) (k : Fin 30) : EReal :=
  Spec.value a.w₁ a.w₂ (a.sim b n) (fun i => a.conv o (lo i)) (fun j => a.conv o (hi j)) (fun s i => a.feature b (key s) i)
    (fun s j => a.points b (key s) j) (a.points b n) k

/-- The result, of the attended channels `mx`. -/
def out (mx : Fin 2 → Fin 128 → Fin 4096 → EReal) (b : Fin 2) (r : Fin 3) (n : Fin 4096) : EReal :=
  ∑ o, a.ow r (left o) * mx b o n + ∑ i, a.ow r (right i) * a.feature b n i + a.ob r

/-- What the equality of the two programs rests on. -/
structure Tame : Prop where
  points : ∀ b n c, IsReal (a.points b n c)
  feature : ∀ b n c, IsReal (a.feature b n c)
  pos : ∀ b n, 0 < a.sq b n
  w₁ : ∀ i j, IsReal (a.w₁ i j)
  w₂ : ∀ i j, IsReal (a.w₂ i j)
  conv : ∀ o i, IsReal (a.conv o i)
  gw : ∀ o, IsReal (a.gw o)
  gw_nonneg : ∀ o, 0 ≤ a.gw o

/-- A square is not negative. -/
theorem sq_nonneg_ereal (x : EReal) : 0 ≤ x * x := by
  rcases le_total 0 x with hx | hx
  · exact mul_nonneg hx hx
  · exact EReal.mul_nonneg_iff.mpr (Or.inr ⟨hx, hx⟩)

variable {a} (h : a.Tame)
include h

/-- A direction is real: a length that is not real is infinite, and then the direction is zero. -/
theorem unit_isReal (b : Fin 2) (n : Fin 4096) (c : Fin 128) : IsReal (a.unit b n c) := by
  have hp := h.pos b n
  unfold unit
  by_cases ht : a.sq b n = ⊤
  · rw [ht]
    have e : Ideal.div (a.inst b n c) (Ideal.sqrt ⊤) = 0 := by
      show (if (⊤ : EReal) = 0 then _ else a.inst b n c * (⊤ : EReal)⁻¹) = 0
      rw [if_neg EReal.top_ne_zero, EReal.inv_top, mul_zero]
    rw [e]
    exact isReal_zero
  · have hle : a.inst b n c * a.inst b n c ≤ a.sq b n :=
      Finset.single_le_sum (f := fun c => a.inst b n c * a.inst b n c) (fun i _ => sq_nonneg_ereal (a.inst b n i)) (Finset.mem_univ c)
    have hx : IsReal (a.inst b n c) := by
      refine isReal_iff.mpr ⟨fun e => ht (top_le_iff.mp ?_), fun e => ht (top_le_iff.mp ?_)⟩
      · rwa [e, EReal.bot_mul_bot] at hle
      · rwa [e, EReal.top_mul_top] at hle
    have hs := sqrt_pos (isReal_iff.mpr ⟨(lt_of_le_of_lt bot_le hp).ne', ht⟩) hp
    exact hx.div hs.1 hs.2

theorem sim_isReal (b : Fin 2) (n : Fin 4096) (s : Fin 120) : IsReal (a.sim b n s) :=
  IsReal.sum _ fun c _ => (unit_isReal h b n c).mul (unit_isReal h b (key s) c)

theorem value_isReal (b : Fin 2) (o : Fin 128) (n : Fin 4096) (k : Fin 30) : IsReal (a.value b o n k) :=
  Spec.value_isReal h.w₁ h.w₂ (sim_isReal h b n) (fun _ => h.conv _ _) (fun _ => h.conv _ _) (fun _ _ => h.feature _ _ _)
    (fun _ _ => h.points _ _ _) (fun _ => h.points _ _ _) k

end Args

end Cert.Global
-- ==== Proof.Scatters.lean ====
/-
  A BLOCK WRITTEN INTO THE CORNER of a matrix: the scatter at index words that are all zero.
-/
module

public import Idealize.ShloMosaic.Lib.Routing.OpsOne
public import Idealize.ShloMosaic.Lib.Pointwise

@[expose] public section

namespace Cert.Scatters

open Idealize.ShloMosaic Idealize.ShloMosaic.Routing

variable {α : Type} {R C r c : ℕ} {si : Shape}

theorem start_zero {s u : Shape} (d : ScatterDims s si u) (idx : IVec si 32) (h0 : ∀ i, idx i = 0#32) (k : u.Idx) (a : Fin s.rank) :
    d.start k idx a = 0 := by
  unfold ScatterDims.start
  split
  · rw [h0]; rfl
  · rfl

/-- An update lands where its own coordinates say. -/
theorem lands (d : ScatterDims ⟨2, ![R, C]⟩ si ⟨2, ![r, c]⟩) (hu : d.updateWindowDims = [0, 1]) (hi : d.insertedWindowDims = []) (idx : IVec si 32)
    (h0 : ∀ i, idx i = 0#32) (k : Fin r) (l : Fin c) (i : Fin R) (j : Fin C) :
    d.resultIdx? (ix2 k l) idx = some (ix2 i j) ↔ k.val = i.val ∧ l.val = j.val := by
  obtain ⟨d1, d2, d3, d4, wf⟩ := d
  dsimp only at hu hi
  subst hu hi
  refine (resultIdx?_ix2 _ _ _ _ _).trans ?_
  rw [start_zero _ idx h0, start_zero _ idx h0]
  have e0 : ScatterDims.window (⟨[0, 1], [], d3, d4, wf⟩ : ScatterDims ⟨2, ![R, C]⟩ si ⟨2, ![r, c]⟩) (ix2 k l) 0 = k.val := rfl
  have e1 : ScatterDims.window (⟨[0, 1], [], d3, d4, wf⟩ : ScatterDims ⟨2, ![R, C]⟩ si ⟨2, ![r, c]⟩) (ix2 k l) 1 = l.val := rfl
  rw [e0, e1]
  omega

/-- Inside the block the result is the update. -/
theorem corner (d : ScatterDims ⟨2, ![R, C]⟩ si ⟨2, ![r, c]⟩) (hu : d.updateWindowDims = [0, 1]) (hi : d.insertedWindowDims = [])
    (x0 : (⟨2, ![R, C]⟩ : Shape).Idx → α) (idx : IVec si 32) (upd : (⟨2, ![r, c]⟩ : Shape).Idx → α)
    (h0 : ∀ i, idx i = 0#32) (k : Fin r) (l : Fin c) (i : Fin R) (j : Fin C) (hk : k.val = i.val) (hl : l.val = j.val) :
    Host.scatter d (fun _ b => b) x0 idx upd (ix2 i j) = upd (ix2 k l) := by
  refine scatter_set_hit d x0 idx upd _ _ (fun k' hk' => ?_) (ix2 k l) ((lands d hu hi idx h0 k l i j).2 ⟨hk, hl⟩)
  obtain ⟨p, q, rfl⟩ : ∃ (p : Fin r) (q : Fin c), k' = ix2 p q := ⟨k' 0, k' 1, eq_ix2 k'⟩
  obtain ⟨hp, hq⟩ := (lands d hu hi idx h0 p q i j).1 hk'
  rw [show p = k from Fin.ext (hp.trans hk.symm), show q = l from Fin.ext (hq.trans hl.symm)]

/-- Outside it the result is the operand. -/
theorem outside (d : ScatterDims ⟨2, ![R, C]⟩ si ⟨2, ![r, c]⟩) (hu : d.updateWindowDims = [0, 1]) (hi : d.insertedWindowDims = [])
    (x0 : (⟨2, ![R, C]⟩ : Shape).Idx → α) (idx : IVec si 32) (upd : (⟨2, ![r, c]⟩ : Shape).Idx → α)
    (h0 : ∀ i, idx i = 0#32) (i : Fin R) (j : Fin C) (h : r ≤ i.val ∨ c ≤ j.val) :
    Host.scatter d (fun _ b => b) x0 idx upd (ix2 i j) = x0 (ix2 i j) := by
  refine scatter_set_miss d x0 idx upd _ fun k' hk' => ?_
  obtain ⟨p, q, rfl⟩ : ∃ (p : Fin r) (q : Fin c), k' = ix2 p q := ⟨k' 0, k' 1, eq_ix2 k'⟩
  obtain ⟨hp, hq⟩ := (lands d hu hi idx h0 p q i j).1 hk'
  have := p.isLt
  have := q.isLt
  omega

/-- A column of entries into the top of a one-column matrix. -/
theorem column (d : ScatterDims ⟨2, ![R, 1]⟩ ⟨1, ![2]⟩ ⟨1, ![r]⟩) (hi : d.insertedWindowDims = [1]) (hs : d.scatterDimsToOperandDims = [0, 1])
    (hv : d.indexVectorDim = 0) (x0 : (⟨2, ![R, 1]⟩ : Shape).Idx → α) (idx : IVec ⟨1, ![2]⟩ 32) (upd : (⟨1, ![r]⟩ : Shape).Idx → α)
    (h0 : ∀ i, idx i = 0#32) (k : Fin r) (i : Fin R) (hk : k.val = i.val) :
    Host.scatter d (fun _ b => b) x0 idx upd (ix2 i 0) = upd (ix1 k) := by
  refine scatter_set_hit d x0 idx upd _ _ (fun k' hk' => ?_) (ix1 k) ((lands_column d hi hs hv idx k i 0).2 ⟨?_, ?_⟩)
  · obtain ⟨p, rfl⟩ : ∃ p : Fin r, k' = ix1 p := ⟨k' 0, eq_ix1 k'⟩
    have := ((lands_column d hi hs hv idx p i 0).1 hk').1
    rw [h0] at this
    rw [show p = k from Fin.ext (by have e : (0#32).toInt = 0 := rfl; omega)]
  · rw [h0]
    have e : (0#32).toInt = 0 := rfl
    omega
  · rw [h0]; rfl

end Cert.Scatters
-- ==== Proof.PassA.Rounds.lean ====
/-
  THE FIRST CALL'S BLOCK, WRITTEN ROUND BY ROUND. The body of the first call is thirty rounds of selection, an attention over the selected
  values, and thirty rounds of accumulation, all written out one after the other. Here each round is one function of vectors (`maxRow`,
  `argRow`, `dropRow`, `setRow`, `cand`, `scatter`), and thirty rounds are a recursion. The equations `fold_…` say that the operations of a
  round, as the body spells them, are these functions.
-/
module

public import proofs.«01_k».proof.Proof.Gen.KernelIdeal
public import Idealize.ShloMosaic.Lib.Pointwise

@[expose] public section

set_option maxRecDepth 16384

noncomputable section

namespace Cert.PassA

open Idealize.ShloMosaic Cert.KernelIdeal

/-! ## The operations of a round -/

/-- The key point's number, in every column. -/
def keys : IVec S120x2048 32 := iota .tc S120x2048 32 [0] (by decide)

/-- The round's number, in every column. -/
def ranks : IVec S32x2048 32 := iota .tc S32x2048 32 [0] (by decide)

/-- The largest value of every column. -/
def maxRow (w : FVec Ideal S120x2048 .f32) : FVec Ideal S1x2048 .f32 :=
  shapeCast S1x2048 (multiReduction .maximumf [0] S2048 w 0xFF800000#32 (by decide) (.inl rfl) rfl) (by decide)

/-- The first key point of every column that has the column's largest value. -/
def argRow (w : FVec Ideal S120x2048 .f32) : IVec S1x2048 32 :=
  shapeCast S1x2048 (multiReductionI .minsi [0] S2048
    (select (cmpf .oeq w (broadcastTo S120x2048 (maxRow w) (by decide))) keys (broadcast S120x2048 120#32)) 2147483647#32 (by decide) rfl)
    (by decide)

/-- Where the key point is `i`. -/
def hits (i : IVec S1x2048 32) : IVec S120x2048 1 := cmpi .eq keys (broadcastTo S120x2048 i (by decide))

/-- The values with every column's first largest set to `x`. -/
def dropRow (x : Ideal .f32) (w : FVec Ideal S120x2048 .f32) : FVec Ideal S120x2048 .f32 :=
  select (hits (argRow w)) (broadcast S120x2048 x) w

/-- The rows `prev` with row `r` set to `row`. -/
def setRow {α : Type} (r : ℕ) (row : S1x2048.Idx → α) (prev : S32x2048.Idx → α) : S32x2048.Idx → α :=
  select (cmpi .eq ranks (broadcast S32x2048 (BitVec.ofNat 32 r)))
    (broadcastTo S32x2048 (shapeCast S1x2048 row (by decide)) (by decide)) prev

/-- Row `k` of 32. -/
def rowAt {α : Type} (k : ℕ) (v : S32x2048.Idx → α) : S1x2048.Idx → α := fun i => v (ix2 (Fin.ofNat 32 k) (i 1))

/-- The attention of every column: two products with a rectifier between them, the rows past 30 set to `x`, a softmax down the column. -/
def attBlock (x : Ideal .f32) (w₁ w₂ : FVec Ideal S32x32 .f32) (t : FVec Ideal S32x2048 .f32) : FVec Ideal S32x2048 .f32 :=
  let a : FVec Ideal S32x2048 .f32 := select (cmpi .slt ranks (broadcast S32x2048 30#32))
    (matmul dot_S32x32_S32x2048_S32x2048_1_0_0_1_n_n none w₂
      (maximumf (matmul dot_S32x32_S32x2048_S32x2048_1_0_0_1_n_n none w₁ t (constant S32x2048 .f32 0x00000000#32))
        (broadcast S32x2048 (Scalar.ofBits .f32 0x00000000#32)))
      (constant S32x2048 .f32 0x00000000#32))
    (broadcast S32x2048 x)
  let m : FVec Ideal S1x2048 .f32 :=
    shapeCast S1x2048 (multiReduction .maximumf [0] S2048 a 0xFF800000#32 (by decide) (.inl rfl) rfl) (by decide)
  let e : FVec Ideal S32x2048 .f32 := exp (subf a (broadcastTo S32x2048 m (by decide)))
  divf e (broadcastTo S32x2048
    (shapeCast S1x2048 (multiReduction .add [0] S2048 e 0x00000000#32 (by decide) (.inl rfl) rfl) (by decide)) (by decide))

/-- The `k`-th neighbour's value in every channel and column: `g` the weighted key points, `p` the weighted points, `a` the attention, `t` the
    neighbours' numbers. -/
def cand (g : FVec Ideal S128x120 .f32) (p : FVec Ideal S128x2048 .f32) (a : FVec Ideal S32x2048 .f32) (t : IVec S32x2048 32) (k : ℕ) :
    FVec Ideal S128x2048 .f32 :=
  mulf (broadcastTo S128x2048 (rowAt k a) (by decide))
    (subf (matmul dot_S128x120_S120x2048_S128x2048_1_0_0_1_n_n none g
      (select (hits (rowAt k t)) (broadcast S120x2048 (Scalar.ofBits .f32 0x3F800000#32)) (broadcast S120x2048 (Scalar.ofBits .f32 0x00000000#32)))
      (constant S128x2048 .f32 0x00000000#32)) p)

/-- The `k`-th neighbour's squared attention, at its key point. -/
def scat (a : FVec Ideal S32x2048 .f32) (t : IVec S32x2048 32) (k : ℕ) : FVec Ideal S120x2048 .f32 :=
  select (hits (rowAt k t))
    (broadcastTo S120x2048 (shapeCast S1x2048 (mulf (rowAt k a) (rowAt k a) : FVec Ideal S1x2048 .f32) (by decide)) (by decide))
    (broadcast S120x2048 (Scalar.ofBits .f32 0x00000000#32))

/-! ## Thirty rounds -/

section Rounds
variable (x : Ideal .f32) (w : FVec Ideal S120x2048 .f32)

/-- The values after `r` rounds. -/
def work : ℕ → FVec Ideal S120x2048 .f32
  | 0 => w
  | r + 1 => dropRow x (work r)

/-- The selected values after `r` rounds. -/
def vals : ℕ → FVec Ideal S32x2048 .f32
  | 0 => broadcast S32x2048 (Scalar.ofBits .f32 0x00000000#32)
  | r + 1 => setRow r (maxRow (work x w r)) (vals r)

/-- The selected key points after `r` rounds. -/
def idxs : ℕ → IVec S32x2048 32
  | 0 => broadcast S32x2048 0#32
  | r + 1 => setRow r (argRow (work x w r)) (idxs r)

end Rounds

section Sums
variable (g : FVec Ideal S128x120 .f32) (p : FVec Ideal S128x2048 .f32) (a : FVec Ideal S32x2048 .f32) (t : IVec S32x2048 32)

/-- The largest of the first `k + 1` neighbours' values. -/
def maxes : ℕ → FVec Ideal S128x2048 .f32
  | 0 => cand g p a t 0
  | k + 1 => maximumf (maxes k) (cand g p a t (k + 1))

/-- The sum of the first `k + 1` neighbours' values. -/
def sums : ℕ → FVec Ideal S128x2048 .f32
  | 0 => cand g p a t 0
  | k + 1 => addf (sums k) (cand g p a t (k + 1))

/-- The squared attention of the first `k + 1` neighbours, at their key points. -/
def scats : ℕ → FVec Ideal S120x2048 .f32
  | 0 => scat a t 0
  | k + 1 => addf (scats k) (scat a t (k + 1))

end Sums

/-- The part of the sum of squares that has key points in it: `g` the weighted key points, `p` the weighted points, `s` the squared attention at
    its key points. -/
def sqLeft (g : FVec Ideal S128x120 .f32) (p : FVec Ideal S128x2048 .f32) (s : FVec Ideal S120x2048 .f32) : FVec Ideal S128x2048 .f32 :=
  subf (matmul dot_S128x120_S120x2048_S128x2048_1_0_0_1_n_n none (mulf g g) s (constant S128x2048 .f32 0x00000000#32))
    (mulf (mulf (broadcast S128x2048 (Scalar.ofBits .f32 0x40000000#32)) p)
      (matmul dot_S128x120_S120x2048_S128x2048_1_0_0_1_n_n none g s (constant S128x2048 .f32 0x00000000#32)))

/-- The part of the sum of squares that has the points alone in it. -/
def sqRight (p : FVec Ideal S128x2048 .f32) (s : FVec Ideal S120x2048 .f32) : FVec Ideal S128x2048 .f32 :=
  mulf (mulf p p) (broadcastTo S128x2048
    (shapeCast S1x2048 (multiReduction .add [0] S2048 s 0x00000000#32 (by decide) (.inl rfl) rfl) (by decide)) (by decide))

/-! ## The body's spelling -/

theorem fold_keys (h) : iota .tc S120x2048 32 [0] h = keys := rfl

theorem fold_ranks (h) : iota .tc S32x2048 32 [0] h = ranks := rfl

theorem fold_maxRow (w : FVec Ideal S120x2048 .f32) (h₁ h₂ h₃ h₄) :
    shapeCast S1x2048 (multiReduction .maximumf [0] S2048 w 0xFF800000#32 h₁ h₂ h₃) h₄ = maxRow w := rfl

theorem fold_argRow (w : FVec Ideal S120x2048 .f32) (h₁ h₂ h₃ h₄) :
    shapeCast S1x2048 (multiReductionI .minsi [0] S2048
      (select (cmpf .oeq w (broadcastTo S120x2048 (maxRow w) h₁)) keys (broadcast S120x2048 120#32)) 2147483647#32 h₂ h₃) h₄ = argRow w := rfl

theorem fold_hits (i : IVec S1x2048 32) (h) : cmpi .eq keys (broadcastTo S120x2048 i h) = hits i := rfl

theorem fold_dropRow (x : Ideal .f32) (w : FVec Ideal S120x2048 .f32) :
    select (hits (argRow w)) (broadcast S120x2048 x) w = dropRow x w := rfl

theorem fold_setRow {α : Type} (r : ℕ) (row : S1x2048.Idx → α) (prev : S32x2048.Idx → α) (h₁ h₂) :
    select (cmpi .eq ranks (broadcast S32x2048 (BitVec.ofNat 32 r))) (broadcastTo S32x2048 (shapeCast S1x2048 row h₁) h₂) prev
      = setRow r row prev := rfl

theorem fold_rowAt {α : Type} (k : ℕ) (v : S32x2048.Idx → α) (h : S32x2048.Slices ![k, 0] S1x2048) :
    extractStridedSlice S1x2048 ![k, 0] v h = rowAt k v := by
  have hk : k + 1 ≤ 32 := h.2 0
  funext i
  idx_vars i
  pointwise [rowAt]
  congr 1
  congr 1
  apply Fin.ext
  simp
  omega

theorem fold_cand (g : FVec Ideal S128x120 .f32) (p : FVec Ideal S128x2048 .f32) (a : FVec Ideal S32x2048 .f32) (t : IVec S32x2048 32) (k : ℕ)
    (h) :
    mulf (broadcastTo S128x2048 (rowAt k a) h)
      (subf (matmul dot_S128x120_S120x2048_S128x2048_1_0_0_1_n_n none g
        (select (hits (rowAt k t)) (broadcast S120x2048 (Scalar.ofBits .f32 0x3F800000#32)) (broadcast S120x2048 (Scalar.ofBits .f32 0x00000000#32)))
        (constant S128x2048 .f32 0x00000000#32)) p)
      = cand g p a t k := rfl

theorem fold_scat (a : FVec Ideal S32x2048 .f32) (t : IVec S32x2048 32) (k : ℕ) (h₁ h₂) :
    select (hits (rowAt k t)) (broadcastTo S120x2048 (shapeCast S1x2048 (mulf (rowAt k a) (rowAt k a) : FVec Ideal S1x2048 .f32) h₁) h₂)
      (broadcast S120x2048 (Scalar.ofBits .f32 0x00000000#32))
      = scat a t k := rfl

end Cert.PassA
-- ==== Proof.PassA.Fold.lean ====
/-
  THE FIRST CALL'S BODY, FOLDED INTO ITS ROUNDS. The generated names of the body's intermediate values are unfolded and the operations of a round
  are recognised as the functions of `Rounds`. What is left of the body are thirty rounds of selection, one attention, thirty rounds of
  accumulation and the two stored blocks.
-/
module

public import proofs.«01_k».proof.Proof.PassA.Rounds
public import proofs.«01_k».proof.Proof.Gen.KernelIdeal.Frame

@[expose] public section

set_option maxRecDepth 65536

noncomputable section

namespace Cert.PassA

open Idealize.ShloMosaic Cert.KernelIdeal Cert.KernelIdeal.Gen

variable (x0 : Vec Ideal S1x120x2048 .f32) (x1 : Vec Ideal S1x3x2048 .f32) (x2 : Vec Ideal S1x120x128 .f32) (x3 : Vec Ideal S1x120x3 .f32)
  (x4 x5 : Vec Ideal S32x32 .f32) (x6 : Vec Ideal S128x128 .f32) (x7 : Vec Ideal S128x3 .f32)

/-- The value that stands for "never". -/
abbrev mask : Ideal .f32 := Named.named κ "mask" 0xFF61B1E6#32

/-- The weighted key points of the block. -/
abbrev gOf : FVec Ideal S128x120 .f32 := k0_pay3 (View.ld x2 r0_2) (View.ld x3 r0_3) (View.ld x6 r0_4) (View.ld x7 r0_5)

/-- The weighted points of the block. -/
abbrev pOf : FVec Ideal S128x2048 .f32 := k0_pay4 (View.ld x1 r0_1) (View.ld x7 r0_5)

/-- The distances of the block. -/
abbrev dOf : FVec Ideal S120x2048 .f32 := k0_pay5 (View.ld x0 r0_0)

/-- The neighbours' numbers. -/
abbrev tOf : IVec S32x2048 32 := idxs mask (dOf x0) 30

/-- The attention. -/
abbrev aOf : FVec Ideal S32x2048 .f32 :=
  attBlock mask (shapeCast S32x32 (View.ld x4 r0_6) (by decide)) (shapeCast S32x32 (View.ld x5 r0_6) (by decide)) (vals mask (dOf x0) 30)

set_option backward.isDefEq.respectTransparency false in
theorem tOf_eq : k0_pay306 x0 x1 x2 x3 x4 x5 x6 x7 = tOf x0 := by
  simp -proj only [k0_pay6, k0_pay7, k0_pay8, k0_pay9, k0_pay10, k0_pay11, k0_pay12, k0_pay13, k0_pay14, k0_pay15, k0_pay16, k0_pay17, k0_pay18, k0_pay19, k0_pay20,
    k0_pay21, k0_pay22, k0_pay23, k0_pay24, k0_pay25, k0_pay26, k0_pay27, k0_pay28, k0_pay29, k0_pay30, k0_pay31, k0_pay32, k0_pay33, k0_pay34,
    k0_pay35, k0_pay36, k0_pay37, k0_pay38, k0_pay39, k0_pay40, k0_pay41, k0_pay42, k0_pay43, k0_pay44, k0_pay45, k0_pay46, k0_pay47, k0_pay48,
    k0_pay49, k0_pay50, k0_pay51, k0_pay52, k0_pay53, k0_pay54, k0_pay55, k0_pay56, k0_pay57, k0_pay58, k0_pay59, k0_pay60, k0_pay61, k0_pay62,
    k0_pay63, k0_pay64, k0_pay65, k0_pay66, k0_pay67, k0_pay68, k0_pay69, k0_pay70, k0_pay71, k0_pay72, k0_pay73, k0_pay74, k0_pay75, k0_pay76,
    k0_pay77, k0_pay78, k0_pay79, k0_pay80, k0_pay81, k0_pay82, k0_pay83, k0_pay84, k0_pay85, k0_pay86, k0_pay87, k0_pay88, k0_pay89, k0_pay90,
    k0_pay91, k0_pay92, k0_pay93, k0_pay94, k0_pay95, k0_pay96, k0_pay97, k0_pay98, k0_pay99, k0_pay100, k0_pay101, k0_pay102, k0_pay103, k0_pay104,
    k0_pay105, k0_pay106, k0_pay107, k0_pay108, k0_pay109, k0_pay110, k0_pay111, k0_pay112, k0_pay113, k0_pay114, k0_pay115, k0_pay116, k0_pay117,
    k0_pay118, k0_pay119, k0_pay120, k0_pay121, k0_pay122, k0_pay123, k0_pay124, k0_pay125, k0_pay126, k0_pay127, k0_pay128, k0_pay129, k0_pay130,
    k0_pay131, k0_pay132, k0_pay133, k0_pay134, k0_pay135, k0_pay136,
    k0_pay274, k0_pay275, k0_pay276, k0_pay277, k0_pay278, k0_pay279, k0_pay280, k0_pay281, k0_pay282, k0_pay283, k0_pay284, k0_pay285, k0_pay286,
    k0_pay287, k0_pay288, k0_pay289, k0_pay290, k0_pay291, k0_pay292, k0_pay293, k0_pay294, k0_pay295, k0_pay296, k0_pay297, k0_pay298, k0_pay299,
    k0_pay300, k0_pay301, k0_pay302, k0_pay303, k0_pay304, k0_pay305, k0_pay306,
    fold_keys, fold_ranks, fold_maxRow, fold_argRow, fold_hits, fold_dropRow, fold_setRow, idxs, work, tOf, dOf, mask]

set_option backward.isDefEq.respectTransparency false in
theorem aOf_eq : k0_pay138 ranks (k0_pay307 x0 x1 x2 x3 x4 x5 x6 x7) = aOf x0 x4 x5 := by
  simp -proj only [k0_pay6, k0_pay7, k0_pay8, k0_pay9, k0_pay10, k0_pay11, k0_pay12, k0_pay13, k0_pay14, k0_pay15, k0_pay16, k0_pay17, k0_pay18, k0_pay19, k0_pay20,
    k0_pay21, k0_pay22, k0_pay23, k0_pay24, k0_pay25, k0_pay26, k0_pay27, k0_pay28, k0_pay29, k0_pay30, k0_pay31, k0_pay32, k0_pay33, k0_pay34,
    k0_pay35, k0_pay36, k0_pay37, k0_pay38, k0_pay39, k0_pay40, k0_pay41, k0_pay42, k0_pay43, k0_pay44, k0_pay45, k0_pay46, k0_pay47, k0_pay48,
    k0_pay49, k0_pay50, k0_pay51, k0_pay52, k0_pay53, k0_pay54, k0_pay55, k0_pay56, k0_pay57, k0_pay58, k0_pay59, k0_pay60, k0_pay61, k0_pay62,
    k0_pay63, k0_pay64, k0_pay65, k0_pay66, k0_pay67, k0_pay68, k0_pay69, k0_pay70, k0_pay71, k0_pay72, k0_pay73, k0_pay74, k0_pay75, k0_pay76,
    k0_pay77, k0_pay78, k0_pay79, k0_pay80, k0_pay81, k0_pay82, k0_pay83, k0_pay84, k0_pay85, k0_pay86, k0_pay87, k0_pay88, k0_pay89, k0_pay90,
    k0_pay91, k0_pay92, k0_pay93, k0_pay94, k0_pay95, k0_pay96, k0_pay97, k0_pay98, k0_pay99, k0_pay100, k0_pay101, k0_pay102, k0_pay103, k0_pay104,
    k0_pay105, k0_pay106, k0_pay107, k0_pay108, k0_pay109, k0_pay110, k0_pay111, k0_pay112, k0_pay113, k0_pay114, k0_pay115, k0_pay116, k0_pay117,
    k0_pay118, k0_pay119, k0_pay120, k0_pay121, k0_pay122, k0_pay123, k0_pay124, k0_pay125, k0_pay126, k0_pay127, k0_pay128, k0_pay129, k0_pay130,
    k0_pay131, k0_pay132, k0_pay133, k0_pay134, k0_pay135, k0_pay136, k0_pay137, k0_pay138,
    k0_pay274, k0_pay275, k0_pay276, k0_pay277, k0_pay278, k0_pay279, k0_pay280, k0_pay281, k0_pay282, k0_pay283, k0_pay284, k0_pay285, k0_pay286,
    k0_pay287, k0_pay288, k0_pay289, k0_pay290, k0_pay291, k0_pay292, k0_pay293, k0_pay294, k0_pay295, k0_pay296, k0_pay297, k0_pay298, k0_pay299,
    k0_pay300, k0_pay301, k0_pay302, k0_pay303, k0_pay304, k0_pay305, k0_pay307,
    fold_keys, fold_ranks, fold_maxRow, fold_argRow, fold_hits, fold_dropRow, fold_setRow, vals, work, attBlock, aOf, dOf, mask]

set_option backward.isDefEq.respectTransparency false in
/-- The first stored block: the largest of thirty neighbours' values. -/
theorem out0_8_eq : out0_8 x0 x1 x2 x3 x4 x5 x6 x7 = View.canon [⟨r0_7, k0_pay1 (maxes (gOf x2 x3 x6 x7) (pOf x1 x7) (aOf x0 x4 x5) (tOf x0) 29)⟩] := by
  simp -proj only [out0_8, tOf_eq, aOf_eq, k0_pay139, k0_pay140, k0_pay141, k0_pay142, k0_pay143, k0_pay144, k0_pay145, k0_pay146, k0_pay147, k0_pay148, k0_pay149, k0_pay150, k0_pay151,
    k0_pay152, k0_pay153, k0_pay154, k0_pay155, k0_pay156, k0_pay157, k0_pay158, k0_pay159, k0_pay160, k0_pay161, k0_pay162, k0_pay163, k0_pay164,
    k0_pay165, k0_pay166, k0_pay167, k0_pay168, k0_pay169, k0_pay170, k0_pay171, k0_pay172, k0_pay173, k0_pay174, k0_pay175, k0_pay176, k0_pay177,
    k0_pay178, k0_pay179, k0_pay180, k0_pay181, k0_pay182, k0_pay183, k0_pay184, k0_pay185, k0_pay186, k0_pay187, k0_pay188, k0_pay189, k0_pay190,
    k0_pay191, k0_pay192, k0_pay193, k0_pay194, k0_pay195, k0_pay196, k0_pay197, k0_pay198, k0_pay199, k0_pay200, k0_pay201, k0_pay202, k0_pay203,
    k0_pay204, k0_pay205, k0_pay206, k0_pay207, k0_pay208, k0_pay209, k0_pay210, k0_pay211, k0_pay212, k0_pay213, k0_pay214, k0_pay215, k0_pay216,
    k0_pay217, k0_pay218, k0_pay219, k0_pay220, k0_pay221, k0_pay222, k0_pay223, k0_pay224, k0_pay225, k0_pay226, k0_pay227, k0_pay228, k0_pay229,
    k0_pay230, k0_pay231, k0_pay232, k0_pay233, k0_pay234, k0_pay235, k0_pay236, k0_pay237, k0_pay238, k0_pay239, k0_pay240, k0_pay241, k0_pay242,
    k0_pay243, k0_pay244, k0_pay245, k0_pay246, k0_pay247, k0_pay248, k0_pay249, k0_pay250, k0_pay251, k0_pay252, k0_pay253, k0_pay254, k0_pay255,
    k0_pay256, k0_pay257, k0_pay258, k0_pay259, k0_pay260, k0_pay261, k0_pay262, k0_pay263, k0_pay264, k0_pay265, k0_pay266, k0_pay267, k0_pay268,
    k0_pay269, k0_pay270, k0_pay271, k0_pay272, k0_pay273,
    k0_pay274, k0_pay275, k0_pay276, k0_pay277,
    k0_pay308, k0_pay309, k0_pay310, k0_pay311, k0_pay312, k0_pay313, k0_pay314, k0_pay315, k0_pay316, k0_pay317, k0_pay318, k0_pay319, k0_pay320,
    k0_pay321, k0_pay322, k0_pay323, k0_pay324, k0_pay325,
    fold_keys, fold_ranks, fold_hits, fold_rowAt, fold_cand, fold_scat, maxes]

set_option backward.isDefEq.respectTransparency false in
/-- The second stored block. -/
theorem out0_9_eq : out0_9 x0 x1 x2 x3 x4 x5 x6 x7 = View.canon [⟨r0_8, k0_pay2 (sums (gOf x2 x3 x6 x7) (pOf x1 x7) (aOf x0 x4 x5) (tOf x0) 29)
    (sqLeft (gOf x2 x3 x6 x7) (pOf x1 x7) (scats (aOf x0 x4 x5) (tOf x0) 29)) (sqRight (pOf x1 x7) (scats (aOf x0 x4 x5) (tOf x0) 29))⟩] := by
  simp -proj only [out0_9, tOf_eq, aOf_eq, k0_pay139, k0_pay140, k0_pay141, k0_pay142, k0_pay143, k0_pay144, k0_pay145, k0_pay146, k0_pay147, k0_pay148, k0_pay149, k0_pay150, k0_pay151,
    k0_pay152, k0_pay153, k0_pay154, k0_pay155, k0_pay156, k0_pay157, k0_pay158, k0_pay159, k0_pay160, k0_pay161, k0_pay162, k0_pay163, k0_pay164,
    k0_pay165, k0_pay166, k0_pay167, k0_pay168, k0_pay169, k0_pay170, k0_pay171, k0_pay172, k0_pay173, k0_pay174, k0_pay175, k0_pay176, k0_pay177,
    k0_pay178, k0_pay179, k0_pay180, k0_pay181, k0_pay182, k0_pay183, k0_pay184, k0_pay185, k0_pay186, k0_pay187, k0_pay188, k0_pay189, k0_pay190,
    k0_pay191, k0_pay192, k0_pay193, k0_pay194, k0_pay195, k0_pay196, k0_pay197, k0_pay198, k0_pay199, k0_pay200, k0_pay201, k0_pay202, k0_pay203,
    k0_pay204, k0_pay205, k0_pay206, k0_pay207, k0_pay208, k0_pay209, k0_pay210, k0_pay211, k0_pay212, k0_pay213, k0_pay214, k0_pay215, k0_pay216,
    k0_pay217, k0_pay218, k0_pay219, k0_pay220, k0_pay221, k0_pay222, k0_pay223, k0_pay224, k0_pay225, k0_pay226, k0_pay227, k0_pay228, k0_pay229,
    k0_pay230, k0_pay231, k0_pay232, k0_pay233, k0_pay234, k0_pay235, k0_pay236, k0_pay237, k0_pay238, k0_pay239, k0_pay240, k0_pay241, k0_pay242,
    k0_pay243, k0_pay244, k0_pay245, k0_pay246, k0_pay247, k0_pay248, k0_pay249, k0_pay250, k0_pay251, k0_pay252, k0_pay253, k0_pay254, k0_pay255,
    k0_pay256, k0_pay257, k0_pay258, k0_pay259, k0_pay260, k0_pay261, k0_pay262, k0_pay263, k0_pay264, k0_pay265, k0_pay266, k0_pay267, k0_pay268,
    k0_pay269, k0_pay270, k0_pay271, k0_pay272, k0_pay273,
    k0_pay274, k0_pay275, k0_pay276, k0_pay277,
    k0_pay308, k0_pay309, k0_pay310, k0_pay311, k0_pay312, k0_pay313, k0_pay314, k0_pay315, k0_pay316, k0_pay317, k0_pay318, k0_pay319, k0_pay320,
    k0_pay321, k0_pay322, k0_pay323, k0_pay324, k0_pay325,
    fold_keys, fold_ranks, fold_hits, fold_rowAt, fold_cand, fold_scat, sums, scats, sqLeft, sqRight]

end Cert.PassA
-- ==== Proof.PassA.Columns.lean ====
/-
  THE FIRST CALL'S ROUNDS, READ DOWN A COLUMN. A point is a column of the block. Down a column thirty rounds of selection are `Pick`'s: the
  round's largest value and its first key point. The attention of a column is `Attention`'s, on 32 rows of which two are padding. The values of a
  neighbour need the key point that the neighbour is, and then the block's largest value, sum and sum of squares are those of thirty numbers.
-/
module

public import proofs.«01_k».proof.Proof.PassA.Rounds
public import proofs.«01_k».proof.Proof.Pick
public import proofs.«01_k».proof.Proof.Attention
public import proofs.«01_k».proof.Proof.Neighbour
public import Idealize.ShloMosaic.PureOps.Ideal.Laws
public import Idealize.ShloMosaic.Lib.WordCmp

@[expose] public section

set_option maxRecDepth 16384

noncomputable section

namespace Cert.PassA

open Idealize.ShloMosaic Idealize.ShloMosaic.WordCmp Cert.KernelIdeal

/-! ## Words -/

theorem ofBits_negInf : Ideal.ofBits .f32 0xFF800000#32 = ⊥ := by simp [Ideal.ofBits, Ideal.ieee]

theorem fold_max_eq_sup {n : ℕ} (f : Fin n → EReal) : Finset.fold max (⊥ : EReal) f Finset.univ = Finset.univ.sup f := rfl

theorem select_eq {α : Type} {a b : ℕ} (ha : a < 2 ^ 32) (hb : b < 2 ^ 32) (x y : α) :
    Scalar.select (IntOp.cmpi .eq (BitVec.ofNat 32 a) (BitVec.ofNat 32 b)) x y = if a = b then x else y := by
  by_cases h : a = b
  · subst h
    simp [Scalar.select, IntOp.cmpi]
  · have h' : BitVec.ofNat 32 a ≠ BitVec.ofNat 32 b := fun e => h ((ofNat_eq_ofNat_iff ha hb).mp e)
    rw [if_neg h]
    exact if_neg (by simpa [IntOp.cmpi, ofBool_eq_one_iff] using h')

theorem select_slt {α : Type} {a b : ℕ} (ha : a < 2 ^ 31) (hb : b < 2 ^ 31) (x y : α) :
    Scalar.select (IntOp.cmpi .slt (BitVec.ofNat 32 a) (BitVec.ofNat 32 b)) x y = if a < b then x else y := by
  rw [cmpi_slt_eq, toInt_ofNat_of_lt ha, toInt_ofNat_of_lt hb]
  by_cases h : a < b <;> simp [Scalar.select, h]

theorem minsi_ofNat {a b : ℕ} (ha : a < 2 ^ 31) (hb : b < 2 ^ 31) :
    IntOp.minsi (BitVec.ofNat 32 a) (BitVec.ofNat 32 b) = BitVec.ofNat 32 (min a b) := by
  unfold IntOp.minsi
  rw [BitVec.slt_eq_decide, toInt_ofNat_of_lt ha, toInt_ofNat_of_lt hb]
  by_cases h : a < b
  · simp [h, h.le]
  · simp [h, not_lt.mp h]

theorem fold_minsi_ofNat {n : ℕ} {b : ℕ} (hb : b < 2 ^ 31) (v : Fin n → ℕ) (hv : ∀ s, v s < 2 ^ 31) (S : Finset (Fin n)) :
    S.fold IntOp.minsi (BitVec.ofNat 32 b) (fun s => BitVec.ofNat 32 (v s)) = BitVec.ofNat 32 (S.fold min b v) ∧ S.fold min b v < 2 ^ 31 := by
  induction S using Finset.induction_on with
  | empty => exact ⟨rfl, hb⟩
  | insert s S hs ih =>
    rw [Finset.fold_insert hs, Finset.fold_insert hs, ih.1]
    exact ⟨minsi_ofNat (hv s) ih.2, lt_of_le_of_lt (min_le_left _ _) (hv s)⟩

/-! ## Selection -/

/-- Column `c`. -/
def col {n : ℕ} {α : Type} (w : Shape.Idx ⟨2, ![n, 2048]⟩ → α) (c : Fin 2048) (s : Fin n) : α := w (ix2 s c)

theorem maxRow_apply (w : FVec Ideal S120x2048 .f32) (c : Fin 2048) : maxRow w (ix2 0 c) = Finset.univ.sup (col w c) := by
  pointwise [maxRow]
  rw [ofBits_negInf]
  rfl

theorem sup_eq_first {n : ℕ} [NeZero n] (x : Fin n → EReal) : Finset.univ.sup x = x (Pick.first x) :=
  le_antisymm (Finset.sup_le fun s _ => (Pick.isFirst_first x).1 s) (Finset.le_sup (f := x) (Finset.mem_univ _))

theorem argRow_apply (w : FVec Ideal S120x2048 .f32) (c : Fin 2048) : argRow w (ix2 0 c) = BitVec.ofNat 32 (Pick.first (col w c)).val := by
  pointwise [argRow]
  simp only [maxRow_apply, sup_eq_first]
  have h := Pick.isFirst_first (col w c)
  have hv : (fun s : Fin 120 => if w (ix2 s c) = col w c (Pick.first (col w c)) then keys (ix2 s c) else 120#32)
      = fun s => BitVec.ofNat 32 (if col w c s = col w c (Pick.first (col w c)) then s.val else 120) := by
    funext s
    rw [apply_ite (BitVec.ofNat 32)]
    congr 1
    pointwise [keys]
  rw [hv]
  have h0 := fold_minsi_ofNat (b := 2147483647) (by norm_num)
    (fun s : Fin 120 => if col w c s = col w c (Pick.first (col w c)) then s.val else 120)
    (fun s => by have := s.isLt; split <;> omega) Finset.univ
  refine h0.1.trans (congrArg _ (le_antisymm ?_ ?_))
  · exact (Finset.fold_min_le _).mpr (Or.inr ⟨Pick.first (col w c), Finset.mem_univ _, by rw [if_pos rfl]⟩)
  · refine (Finset.le_fold_min _).mpr ⟨by have := (Pick.first (col w c)).isLt; omega, fun s _ => ?_⟩
    split
    · next e => exact not_lt.mp fun hlt => h.2 s hlt e
    · have := (Pick.first (col w c)).isLt; omega

theorem hits_select {α : Type} {i : IVec S1x2048 32} {c : Fin 2048} {p : Fin 120} (hi : i (ix2 0 c) = BitVec.ofNat 32 p.val) (s : Fin 120) (x y : α) :
    Scalar.select (hits i (ix2 s c)) x y = if s = p then x else y := by
  have e : hits i (ix2 s c) = IntOp.cmpi .eq (BitVec.ofNat 32 s.val) (BitVec.ofNat 32 p.val) := by
    rw [← hi]
    pointwise [hits, keys]
  rw [e, select_eq (by omega) (by omega)]
  exact if_congr Fin.ext_iff.symm rfl rfl

theorem col_dropRow (w : FVec Ideal S120x2048 .f32) (c : Fin 2048) (s : Fin 120) :
    col (dropRow ⊥ w) c s = if s = Pick.first (col w c) then ⊥ else col w c s := by
  have h := hits_select (argRow_apply w c) s (⊥ : EReal) (w (ix2 s c))
  exact h

theorem col_work (w : FVec Ideal S120x2048 .f32) (c : Fin 2048) (r : ℕ) : col (work ⊥ w r) c = Pick.work (col w c) r := by
  induction r with
  | zero => rfl
  | succ r ih =>
    funext s
    exact (col_dropRow _ c s).trans (by rw [ih]; rfl)

theorem setRow_apply {α : Type} (r : ℕ) (hr : r < 32) (row : S1x2048.Idx → α) (prev : S32x2048.Idx → α) (k : Fin 32) (c : Fin 2048) :
    setRow r row prev (ix2 k c) = if k.val = r then row (ix2 0 c) else prev (ix2 k c) := by
  pointwise [setRow, ranks]
  exact select_eq (by omega) (by omega) _ _

theorem vals_apply {w : FVec Ideal S120x2048 .f32} {c : Fin 2048} (hd : ∀ s, col w c s ≠ ⊥) (k : Fin 32) :
    ∀ n ≤ 32, vals ⊥ w n (ix2 k c) = if k.val < n then col w c (Pick.pick (col w c) k.val) else 0
  | 0, _ => by
    pointwise [vals]
    simp
  | n + 1, h => by
    rw [vals, setRow_apply n (by omega), vals_apply hd k n (by omega), maxRow_apply, col_work, sup_eq_first]
    split
    · next e =>
      rw [if_pos (by omega), ← e]
      exact Pick.work_pick hd (by omega)
    · exact if_congr (by omega) rfl rfl

theorem idxs_apply {w : FVec Ideal S120x2048 .f32} {c : Fin 2048} (k : Fin 32) :
    ∀ n ≤ 32, k.val < n → idxs ⊥ w n (ix2 k c) = BitVec.ofNat 32 (Pick.pick (col w c) k.val).val
  | 0, _, h => absurd h (by omega)
  | n + 1, h, hk => by
    rw [idxs, setRow_apply n (by omega), argRow_apply, col_work]
    split
    · next e => rw [← e]; rfl
    · exact idxs_apply k n (by omega) (by omega)

/-! ## Attention -/

theorem attBlock_apply (w₁ w₂ : FVec Ideal S32x32 .f32) (t : FVec Ideal S32x2048 .f32) (k : Fin 32) (c : Fin 2048) :
    attBlock ⊥ w₁ w₂ t (ix2 k c) = Attention.softmax (fun i : Fin 32 => if i.val < 30 then
      Attention.logits (fun s j => w₁ (ix2 s j)) (fun s j => w₂ (ix2 s j)) (col t c) i else ⊥) k := by
  have hs : ∀ (i : Fin 32) (x : EReal), Scalar.select (IntOp.cmpi .slt (BitVec.ofNat 32 i.val) 30#32) x ⊥ = if i.val < 30 then x else ⊥ :=
    fun i x => select_slt (by omega) (by omega) x ⊥
  pointwise [attBlock, ranks]
  simp only [hs, ofBits_negInf]
  rfl

/-! ## Neighbours -/

section Neighbours
variable {g : FVec Ideal S128x120 .f32} {p : FVec Ideal S128x2048 .f32} {a : FVec Ideal S32x2048 .f32} {t : IVec S32x2048 32}

theorem rowAt_apply {α : Type} (v : S32x2048.Idx → α) {k : ℕ} (hk : k < 32) (c : Fin 2048) : rowAt k v (ix2 0 c) = v (ix2 ⟨k, hk⟩ c) := by
  have e : Fin.ofNat 32 k = ⟨k, hk⟩ := Fin.ext (Nat.mod_eq_of_lt hk)
  unfold rowAt
  rw [e]
  rfl

/-- The attention of row `k`. -/
def row (a : FVec Ideal S32x2048 .f32) (c : Fin 2048) (k : ℕ) : EReal := a (ix2 (Fin.ofNat 32 k) c)

theorem rowAt_row (a : FVec Ideal S32x2048 .f32) (k : ℕ) (c : Fin 2048) : rowAt k a (ix2 0 c) = row a c k := rfl

theorem cand_apply {c : Fin 2048} {k : ℕ} (hk : k < 32) {pk : Fin 120} (ht : t (ix2 ⟨k, hk⟩ c) = BitVec.ofNat 32 pk.val) (o : Fin 128) :
    cand g p a t k (ix2 o c) = row a c k * (g (ix2 o pk) - p (ix2 o c)) := by
  have hi := (rowAt_apply t hk c).trans ht
  pointwise [cand]
  simp only [hits_select hi, rowAt_row]
  simp only [Finset.sum_ite_eq', Finset.mem_univ, if_true]

theorem scat_apply {c : Fin 2048} {k : ℕ} (hk : k < 32) {pk : Fin 120} (ht : t (ix2 ⟨k, hk⟩ c) = BitVec.ofNat 32 pk.val) (s : Fin 120) :
    scat a t k (ix2 s c) = if s = pk then row a c k * row a c k else 0 := by
  have hi := (rowAt_apply t hk c).trans ht
  pointwise [scat]
  simp only [hits_select hi, rowAt_row]

theorem univ_sup_castSucc {n : ℕ} (f : Fin (n + 1) → EReal) :
    Finset.univ.sup f = max (Finset.univ.sup fun k : Fin n => f k.castSucc) (f (Fin.last n)) := by
  rw [Fin.univ_castSuccEmb, Finset.sup_cons, Finset.sup_map, max_comm]
  rfl

variable {c : Fin 2048} {pk : ℕ → Fin 120} {m : ℕ}
  (ht : ∀ (k : ℕ) (hk : k < 32), k < m → t (ix2 ⟨k, hk⟩ c) = BitVec.ofNat 32 (pk k).val)
include ht

theorem maxes_apply (o : Fin 128) : ∀ n < 32, n < m →
    maxes g p a t n (ix2 o c) = Finset.univ.sup fun k : Fin (n + 1) => row a c k.val * (g (ix2 o (pk k.val)) - p (ix2 o c))
  | 0, h, hm => by
    rw [maxes, cand_apply h (ht 0 h hm)]
    exact (Finset.sup_singleton (b := (0 : Fin 1)) (f := fun k : Fin 1 => row a c k.val * (g (ix2 o (pk k.val)) - p (ix2 o c)))).symm
  | n + 1, h, hm => by
    rw [univ_sup_castSucc]
    exact congrArg₂ max (maxes_apply o n (by omega) (by omega)) (cand_apply h (ht (n + 1) h hm) o)

theorem sums_apply (o : Fin 128) : ∀ n < 32, n < m →
    sums g p a t n (ix2 o c) = ∑ k : Fin (n + 1), row a c k.val * (g (ix2 o (pk k.val)) - p (ix2 o c))
  | 0, h, hm => by
    rw [sums, cand_apply h (ht 0 h hm)]
    exact (Fin.sum_univ_one fun k : Fin 1 => row a c k.val * (g (ix2 o (pk k.val)) - p (ix2 o c))).symm
  | n + 1, h, hm => by
    rw [Fin.sum_univ_castSucc]
    exact congrArg₂ (· + ·) (sums_apply o n (by omega) (by omega)) (cand_apply h (ht (n + 1) h hm) o)

theorem scats_apply (s : Fin 120) : ∀ n < 32, n < m →
    scats a t n (ix2 s c) = ∑ k : Fin (n + 1), if s = pk k.val then row a c k.val * row a c k.val else 0
  | 0, h, hm => by
    rw [scats, scat_apply h (ht 0 h hm)]
    exact (Fin.sum_univ_one fun k : Fin 1 => if s = pk k.val then row a c k.val * row a c k.val else 0).symm
  | n + 1, h, hm => by
    rw [Fin.sum_univ_castSucc]
    exact congrArg₂ (· + ·) (scats_apply s n (by omega) (by omega)) (scat_apply h (ht (n + 1) h hm) s)

omit ht in
theorem ofBits_two : Ideal.ofBits .f32 0x40000000#32 = ((2 : ℝ) : EReal) := by
  simp [Ideal.ofBits, Ideal.ieee, -EReal.coe_mul]
  norm_num

omit ht in
theorem squares_apply (s : FVec Ideal S120x2048 .f32) (o : Fin 128) :
    sqLeft g p s (ix2 o c) + sqRight p s (ix2 o c) =
      (∑ i : Fin 120, g (ix2 o i) * g (ix2 o i) * s (ix2 i c) - ((2 : ℝ) : EReal) * p (ix2 o c) * ∑ i : Fin 120, g (ix2 o i) * s (ix2 i c))
        + p (ix2 o c) * p (ix2 o c) * ∑ i : Fin 120, s (ix2 i c) := by
  pointwise [sqLeft, sqRight]
  rw [ofBits_two]

end Neighbours

end Cert.PassA
-- ==== Proof.PassA.Block.lean ====
/-
  THE FIRST CALL'S BLOCKS. The stored blocks at an element: in channel `o` and column `c` the largest of the thirty neighbours' values, and for
  channel `o` the sums over the block's columns of the values and of their squares.
-/
module

public import proofs.«01_k».proof.Proof.PassA.Fold
public import proofs.«01_k».proof.Proof.PassA.Columns
public import proofs.«01_k».proof.Proof.Spec
public import Idealize.ShloMosaic.Lib.Pipeline.Value

@[expose] public section

set_option maxRecDepth 16384

noncomputable section

namespace Cert.PassA

open Idealize.ShloMosaic Cert.KernelIdeal Cert.KernelIdeal.Gen Cert.Finite

/-- The mask is minus infinity. -/
theorem mask_eq : mask = (⊥ : EReal) := IdealRules.named_const.ideal_named_scalar _ _ _ _ rfl

variable (x0 : Vec Ideal S1x120x2048 .f32) (x1 : Vec Ideal S1x3x2048 .f32) (x2 : Vec Ideal S1x120x128 .f32) (x3 : Vec Ideal S1x120x3 .f32)
  (x4 x5 : Vec Ideal S32x32 .f32) (x6 : Vec Ideal S128x128 .f32) (x7 : Vec Ideal S128x3 .f32)

theorem gOf_apply (o : Fin 128) (s : Fin 120) :
    gOf x2 x3 x6 x7 (ix2 o s) = ∑ i : Fin 128, x6 (ix2 o i) * x2 (ix3 0 s i) + ∑ j : Fin 3, x7 (ix2 o j) * x3 (ix3 0 s j) := by
  unfold gOf k0_pay3
  pointwise

theorem pOf_apply (o : Fin 128) (c : Fin 2048) : pOf x1 x7 (ix2 o c) = ∑ j : Fin 3, x7 (ix2 o j) * x1 (ix3 0 j c) := by
  unfold pOf k0_pay4
  pointwise

theorem dOf_apply (s : Fin 120) (c : Fin 2048) : dOf x0 (ix2 s c) = Spec.dist (fun s => x0 (ix3 0 s c)) s := by
  unfold dOf k0_pay5
  pointwise
  rfl

/-- A 32 × 32 matrix whose first 30 rows and columns are `w` and whose other columns are zero. -/
structure Padded (W : Vec Ideal S32x32 .f32) (w : Fin 30 → Fin 30 → EReal) : Prop where
  eq : ∀ s j, W (ix2 (Attention.up s) (Attention.up j)) = w s j
  zero : ∀ (s j : Fin 32), 30 ≤ j.val → W (ix2 s j) = 0

/-- The point of column `c`. -/
abbrev simOf (c : Fin 2048) (s : Fin 120) : EReal := x0 (ix3 0 s c)

variable {x0 x1 x2 x3 x4 x5 x6 x7} {w₁ w₂ : Fin 30 → Fin 30 → EReal} {c : Fin 2048}

theorem col_dOf : col (dOf x0) c = Spec.dist (simOf x0 c) := funext fun s => dOf_apply x0 s c

theorem tOf_apply (k : ℕ) (hk : k < 32) (h : k < 30) : tOf x0 (ix2 ⟨k, hk⟩ c) = BitVec.ofNat 32 (Spec.near (simOf x0 c) k).val := by
  have e := idxs_apply (w := dOf x0) (c := c) ⟨k, hk⟩ 30 (by omega) h
  rw [col_dOf] at e
  rw [tOf, mask_eq]
  exact e

theorem row_aOf (hs : ∀ s, IsReal (simOf x0 c s)) (p₁ : Padded x4 w₁) (p₂ : Padded x5 w₂) (k : Fin 30) :
    row (aOf x0 x4 x5) c k.val = Spec.attn w₁ w₂ (simOf x0 c) k := by
  have hk : Fin.ofNat 32 k.val = Attention.up k := Fin.ext (Nat.mod_eq_of_lt (by omega))
  have hd : ∀ s, col (dOf x0) c s ≠ ⊥ := by
    rw [col_dOf]
    exact Spec.dist_ne_bot hs
  have hz : (![0, 0] : Fin 2 → ℕ) = fun _ => 0 := by funext i; fin_cases i <;> rfl
  have hc : ∀ (x : Vec Ideal S32x32 .f32) (h), shapeCast S32x32 x h = x := fun x h => shapeCast_self x h
  rw [row, hk, aOf, mask_eq, attBlock_apply, View.ld_unit_zero (S := S32x32) hz, View.ld_unit_zero (S := S32x32) hz, hc, hc]
  refine Attention.att_padded p₁.eq p₁.zero p₂.eq p₂.zero _ _ (fun j => ?_) k
  have hj := vals_apply hd (Attention.up j) 30 (by omega)
  rw [if_pos (show (Attention.up j).val < 30 from j.isLt), col_dOf] at hj
  exact hj

/-- The values of the block in channel `o` and column `c`. -/
abbrev valueOf (w₁ w₂ : Fin 30 → Fin 30 → EReal) (x0 : Vec Ideal S1x120x2048 .f32) (x1 : Vec Ideal S1x3x2048 .f32) (x2 : Vec Ideal S1x120x128 .f32)
    (x3 : Vec Ideal S1x120x3 .f32) (x6 : Vec Ideal S128x128 .f32) (x7 : Vec Ideal S128x3 .f32) (o : Fin 128) (c : Fin 2048) (k : Fin 30) : EReal :=
  Spec.value w₁ w₂ (simOf x0 c) (fun i => x6 (ix2 o i)) (fun j => x7 (ix2 o j)) (fun s i => x2 (ix3 0 s i)) (fun s j => x3 (ix3 0 s j))
    (fun j => x1 (ix3 0 j c)) k

theorem term_eq (hs : ∀ s, IsReal (simOf x0 c s)) (p₁ : Padded x4 w₁) (p₂ : Padded x5 w₂) (o : Fin 128) (k : Fin 30) :
    row (aOf x0 x4 x5) c k.val * (gOf x2 x3 x6 x7 (ix2 o (Spec.near (simOf x0 c) k.val)) - pOf x1 x7 (ix2 o c))
      = valueOf w₁ w₂ x0 x1 x2 x3 x6 x7 o c k := by
  rw [row_aOf hs p₁ p₂, gOf_apply, pOf_apply]
  rfl

/-- The first stored block. -/
theorem out0_8_apply (hs : ∀ s, IsReal (simOf x0 c s)) (p₁ : Padded x4 w₁) (p₂ : Padded x5 w₂) (o : Fin 128) :
    out0_8 x0 x1 x2 x3 x4 x5 x6 x7 (ix3 0 o c) = Finset.univ.sup (valueOf w₁ w₂ x0 x1 x2 x3 x6 x7 o c) := by
  have hz : (![0, 0, 0] : Fin 3 → ℕ) = fun _ => 0 := by funext i; fin_cases i <;> rfl
  rw [out0_8_eq, View.canon_unit_zero (S := S1x128x2048) hz]
  unfold k0_pay1
  pointwise
  rw [maxes_apply tOf_apply o 29 (by omega) (by omega)]
  exact Finset.sup_congr rfl fun k _ => term_eq hs p₁ p₂ o k

/-- The second stored block: the sums of the values. -/
theorem out0_9_sum (hs : ∀ c s, IsReal (simOf x0 c s)) (p₁ : Padded x4 w₁) (p₂ : Padded x5 w₂) (o : Fin 128) :
    out0_9 x0 x1 x2 x3 x4 x5 x6 x7 (ix4 0 0 o 0) = ∑ c : Fin 2048, ∑ k : Fin 30, valueOf w₁ w₂ x0 x1 x2 x3 x6 x7 o c k := by
  have hz : (![0, 0, 0, 0] : Fin 4 → ℕ) = fun _ => 0 := by funext i; fin_cases i <;> rfl
  rw [out0_9_eq, View.canon_unit_zero (S := S1x1x128x2) hz]
  unfold k0_pay2
  pointwise
  refine Finset.sum_congr rfl fun c _ => ?_
  rw [sums_apply tOf_apply o 29 (by omega) (by omega)]
  exact Finset.sum_congr rfl fun k _ => term_eq (hs c) p₁ p₂ o k

/-- The second stored block: the sums of the values' squares. -/
theorem out0_9_squares (hs : ∀ c s, IsReal (simOf x0 c s)) (p₁ : Padded x4 w₁) (p₂ : Padded x5 w₂) (h₁ : ∀ i j, IsReal (w₁ i j))
    (h₂ : ∀ i j, IsReal (w₂ i j)) (r1 : ∀ i, IsReal (x1 i)) (r2 : ∀ i, IsReal (x2 i)) (r3 : ∀ i, IsReal (x3 i)) (r6 : ∀ i, IsReal (x6 i))
    (r7 : ∀ i, IsReal (x7 i)) (o : Fin 128) :
    out0_9 x0 x1 x2 x3 x4 x5 x6 x7 (ix4 0 0 o 1)
      = ∑ c : Fin 2048, ∑ k : Fin 30, valueOf w₁ w₂ x0 x1 x2 x3 x6 x7 o c k * valueOf w₁ w₂ x0 x1 x2 x3 x6 x7 o c k := by
  have hz : (![0, 0, 0, 0] : Fin 4 → ℕ) = fun _ => 0 := by funext i; fin_cases i <;> rfl
  rw [out0_9_eq, View.canon_unit_zero (S := S1x1x128x2) hz]
  unfold k0_pay2
  pointwise
  refine Finset.sum_congr rfl fun c _ => ?_
  rw [squares_apply]
  simp only [scats_apply tOf_apply _ 29 (by omega) (by omega)]
  refine (Neighbour.squares_eq (a := fun k : Fin 30 => row (aOf x0 x4 x5) c k.val) (g := fun s => gOf x2 x3 x6 x7 (ix2 o s))
    (fun k => Spec.near (simOf x0 c) k.val) (fun s => ?_) (fun k => ?_) ?_).trans (Finset.sum_congr rfl fun k _ => ?_)
  · rw [gOf_apply]
    exact (IsReal.sum _ fun i _ => (r6 _).mul (r2 _)).add (IsReal.sum _ fun j _ => (r7 _).mul (r3 _))
  · rw [row_aOf (hs c) p₁ p₂]
    exact Spec.attn_isReal h₁ h₂ (hs c) k
  · rw [pOf_apply]
    exact IsReal.sum _ fun j _ => (r7 _).mul (r1 _)
  · simp only [term_eq (hs c) p₁ p₂]

end Cert.PassA
-- ==== Proof.Host.lean ====
/-
  THE KERNEL'S HOST OPERATIONS, read at an index.
-/
module

public import proofs.«01_k».proof.Proof.Global
public import proofs.«01_k».proof.Proof.Gen.KernelIdeal.Frame
public import proofs.«01_k».proof.Proof.Scatters
public import proofs.«01_k».proof.Proof.PassA.Block
public import Idealize.ShloMosaic.Lib.StableHlo.ReadAt

@[expose] public section

set_option maxRecDepth 16384

noncomputable section

namespace Cert.Host

open Idealize.ShloMosaic Idealize.ShloMosaic.TcCoe Idealize.ShloMosaic.StableHlo Cert.KernelIdeal Cert.KernelIdeal.Gen Cert.Global

variable (m : (ℓ : Loc nD τ sig) → Buf (Elt Ideal) ℓ) (ρ : Dev nD → PrngReg) (c : Dev nD)

/-- The arguments, as functions of coordinates. -/
def args : Args where
  points b n j := (m (c.tc.loc main_arg0) : FVec Ideal S2x4096x3 .f32) (ix3 b n j)
  feature b n j := (m (c.tc.loc main_arg1) : FVec Ideal S2x4096x128 .f32) (ix3 b n j)
  inst b n j := (m (c.tc.loc main_arg2) : FVec Ideal S2x4096x128 .f32) (ix3 b n j)
  w₁ i j := (m (c.tc.loc main_arg3) : FVec Ideal S30x30 .f32) (ix2 i j)
  w₂ i j := (m (c.tc.loc main_arg4) : FVec Ideal S30x30 .f32) (ix2 i j)
  conv o i := (m (c.tc.loc main_arg5) : FVec Ideal S128x131 .f32) (ix2 o i)
  gw o := (m (c.tc.loc main_arg6) : FVec Ideal S128 .f32) (ix1 o)
  gb o := (m (c.tc.loc main_arg7) : FVec Ideal S128 .f32) (ix1 o)
  ow r i := (m (c.tc.loc main_arg8) : FVec Ideal S3x256 .f32) (ix2 r i)
  ob r := (m (c.tc.loc main_arg9) : FVec Ideal S3 .f32) (ix1 r)

/-! ### The key points, the transposed arrays, the similarities -/

theorem kp (b : Fin 2) (s : Fin 120) (j : Fin 3) :
    (W5 m ρ c (Proc.devRef .tc main_v6) : FVec Ideal S2x120x3 .f32) (ix3 b s j) = (args m c).points b (key s) j := by
  after_reads_simp
  rw [Gathers.rows _ rfl rfl rfl rfl rfl rfl rfl]
  pointwise
  rfl

theorem fs (b : Fin 2) (s : Fin 120) (j : Fin 128) :
    (W5 m ρ c (Proc.devRef .tc main_v13) : FVec Ideal S2x120x128 .f32) (ix3 b s j) = (args m c).feature b (key s) j := by
  after_reads_simp
  rw [Gathers.rows _ rfl rfl rfl rfl rfl rfl rfl]
  pointwise
  rfl

theorem pts (b : Fin 2) (j : Fin 3) (n : Fin 4096) :
    (W5 m ρ c (Proc.devRef .tc main_v21) : FVec Ideal S2x3x4096 .f32) (ix3 b j n) = (args m c).points b n j := by
  after_reads_at
  rfl

theorem feat (b : Fin 2) (j : Fin 128) (n : Fin 4096) :
    (W5 m ρ c (Proc.devRef .tc main_v22) : FVec Ideal S2x128x4096 .f32) (ix3 b j n) = (args m c).feature b n j := by
  after_reads_at
  rfl

theorem sim (b : Fin 2) (s : Fin 120) (n : Fin 4096) :
    (W5 m ρ c (Proc.devRef .tc main_v30) : FVec Ideal S2x120x4096 .f32) (ix3 b s n) = (args m c).sim b n s := by
  after_reads_at
  simp only [Gathers.rows gather_S2x4096x128_S120x1_S2x120x128_02_1_n_n_1_1_21128 rfl rfl rfl rfl rfl rfl rfl]
  pointwise
  rfl

/-! ### The weights -/

theorem w1_in (i j : Fin 30) :
    (W5 m ρ c (Proc.devRef .tc main_v35) : FVec Ideal S32x32 .f32) (ix2 (Attention.up i) (Attention.up j)) = (args m c).w₁ i j := by
  after_reads_simp
  rw [Scatters.corner scatter_S32x32_S2_S30x30_01_n_01_0 rfl rfl _ _ _ ?_ i j _ _ rfl rfl]
  · rfl
  · intro i
    obtain ⟨i, rfl⟩ : ∃ i' : Fin 2, i = ix1 i' := ⟨i 0, ValueIdx.eq_ix1 i⟩
    fin_cases i <;> after_reads_at

theorem w1_out (i j : Fin 32) (h : 30 ≤ j.val) :
    (W5 m ρ c (Proc.devRef .tc main_v35) : FVec Ideal S32x32 .f32) (ix2 i j) = (0 : EReal) := by
  after_reads_simp
  rw [Scatters.outside scatter_S32x32_S2_S30x30_01_n_01_0 rfl rfl _ _ _ ?_ i j (Or.inr h)]
  · pointwise
  · intro i
    obtain ⟨i, rfl⟩ : ∃ i' : Fin 2, i = ix1 i' := ⟨i 0, ValueIdx.eq_ix1 i⟩
    fin_cases i <;> after_reads_at

theorem w2_in (i j : Fin 30) :
    (W5 m ρ c (Proc.devRef .tc main_v40) : FVec Ideal S32x32 .f32) (ix2 (Attention.up i) (Attention.up j)) = (args m c).w₂ i j := by
  after_reads_simp
  rw [Scatters.corner scatter_S32x32_S2_S30x30_01_n_01_0 rfl rfl _ _ _ ?_ i j _ _ rfl rfl]
  · rfl
  · intro i
    obtain ⟨i, rfl⟩ : ∃ i' : Fin 2, i = ix1 i' := ⟨i 0, ValueIdx.eq_ix1 i⟩
    fin_cases i <;> after_reads_at

theorem w2_out (i j : Fin 32) (h : 30 ≤ j.val) :
    (W5 m ρ c (Proc.devRef .tc main_v40) : FVec Ideal S32x32 .f32) (ix2 i j) = (0 : EReal) := by
  after_reads_simp
  rw [Scatters.outside scatter_S32x32_S2_S30x30_01_n_01_0 rfl rfl _ _ _ ?_ i j (Or.inr h)]
  · pointwise
  · intro i
    obtain ⟨i, rfl⟩ : ∃ i' : Fin 2, i = ix1 i' := ⟨i 0, ValueIdx.eq_ix1 i⟩
    fin_cases i <;> after_reads_at

theorem wf (o i : Fin 128) :
    (W5 m ρ c (Proc.devRef .tc main_v41) : FVec Ideal S128x128 .f32) (ix2 o i) = (args m c).conv o (lo i) := by
  after_reads_at
  rfl

theorem wp (o : Fin 128) (j : Fin 3) :
    (W5 m ρ c (Proc.devRef .tc main_v42) : FVec Ideal S128x3 .f32) (ix2 o j) = (args m c).conv o (hi j) := by
  after_reads_at
  rfl

theorem mwh (r : Fin 3) (o : Fin 128) :
    (W5 m ρ c (Proc.devRef .tc main_v46) : FVec Ideal S8x128 .f32) (ix2 (Fin.castLE (by decide) r : Fin 8) o) = (args m c).ow r (left o) := by
  after_reads_simp
  rw [Scatters.corner scatter_S8x128_S1_S3x128_01_n_0_0 rfl rfl _ _ _ ?_ r o _ _ rfl rfl]
  · pointwise
    rfl
  · intro i
    obtain ⟨i, rfl⟩ : ∃ i' : Fin 1, i = ix1 i' := ⟨i 0, ValueIdx.eq_ix1 i⟩
    pointwise

theorem mwf (r : Fin 3) (i : Fin 128) :
    (W5 m ρ c (Proc.devRef .tc main_v50) : FVec Ideal S8x128 .f32) (ix2 (Fin.castLE (by decide) r : Fin 8) i) = (args m c).ow r (right i) := by
  after_reads_simp
  rw [Scatters.corner scatter_S8x128_S1_S3x128_01_n_0_0 rfl rfl _ _ _ ?_ r i _ _ rfl rfl]
  · pointwise
    rfl
  · intro i
    obtain ⟨i, rfl⟩ : ∃ i' : Fin 1, i = ix1 i' := ⟨i 0, ValueIdx.eq_ix1 i⟩
    pointwise

theorem mb (r : Fin 3) :
    (W5 m ρ c (Proc.devRef .tc main_v55) : FVec Ideal S8x1 .f32) (ix2 (Fin.castLE (by decide) r : Fin 8) 0) = (args m c).ob r := by
  after_reads_simp
  rw [Scatters.column scatter_S8x1_S2_S3_0_1_01_0 rfl rfl rfl _ _ _ ?_ r _ rfl]
  · rfl
  · intro i
    obtain ⟨i, rfl⟩ : ∃ i' : Fin 2, i = ix1 i' := ⟨i 0, ValueIdx.eq_ix1 i⟩
    fin_cases i <;> after_reads_at

end Cert.Host
-- ==== Proof.Tame.lean ====
/-
  THE PRECONDITION, DECODED. `tame` compares the arrays with constants, entry by entry; all ones, the comparisons say
  that the arguments are real numbers, that no instance feature vanishes and that no scale is negative.
-/
module

public import proofs.«01_k».proof.Defs
public import proofs.«01_k».proof.Proof.Host
public import proofs.«01_k».proof.Proof.Gen.Kernel
public import proofs.«01_k».proof.Proof.Gen.ReferenceIdeal

@[expose] public section

set_option maxRecDepth 16384

noncomputable section

namespace Cert.Pre_tame

open Idealize.ShloMosaic Idealize.ShloMosaic.TcCoe Idealize.ShloMosaic.StableHlo Cert.Finite Cert.Global

/-- The shape relations the predicate takes. -/
instance facts : Facts where
  bcast_S_S2x4096x3 := by decide
  bcast_S_S2x4096x128 := by decide
  reducesTo_S2x4096x128_S2x4096_d2 := by decide
  h_S_ := by decide
  bcast_S_S2x4096 := by decide
  bcast_S_S30x30 := by decide
  bcast_S_S128x131 := by decide
  bcast_S_S128 := by decide

theorem inf_def : Ideal.ofBits .f32 0x7F800000#32 = ⊤ := by
  simp [Ideal.ofBits, Ideal.ieee]

theorem zero_def : Ideal.ofBits .f32 0x00000000#32 = 0 := by
  simp [Ideal.ofBits, Ideal.ieee]

theorem of_bit {p : Prop} [Decidable p] (h : BitVec.ofBool (decide p) = 1#1) : p := by
  by_contra hp
  simp [hp] at h

/-- An extended real of absolute value below infinity is a real number. -/
theorem isReal_of_abs {x : EReal} (h : max x (-x) < ⊤) : IsReal x := by
  refine isReal_iff.mpr ⟨?_, ?_⟩
  · rintro rfl
    simp at h
  · rintro rfl
    simp at h

/-- An array whose absolute values all compare below infinity holds real numbers. -/
theorem reals {s : Shape} (x : FVec Ideal s .f32) (hb : S_.BroadcastsInDim s (![] : Fin 0 → Fin s.rank))
    (h : cmpf .olt (Host.absf x) (broadcastInDim s ![] hb (constant S_ .f32 0x7F800000#32)) = fun _ => 1#1) (i) : IsReal (x i) := by
  have e : max (x i : EReal) (-(x i : EReal)) < Ideal.ofBits .f32 0x7F800000#32 := of_bit (congrFun h i)
  rw [inf_def] at e
  exact isReal_of_abs e

/-- An array whose entries all compare at least zero holds none below zero. -/
theorem nonneg {s : Shape} (x : FVec Ideal s .f32) (hb : S_.BroadcastsInDim s (![] : Fin 0 → Fin s.rank))
    (h : cmpf .oge x (broadcastInDim s ![] hb (constant S_ .f32 0x00000000#32)) = fun _ => 1#1) (i) : (0 : EReal) ≤ x i := by
  have e : Ideal.ofBits .f32 0x00000000#32 ≤ (x i : EReal) := of_bit (congrFun h i)
  rwa [zero_def] at e

/-- Vectors whose sums of squares all compare above zero have positive sums of squares. -/
theorem squares (x : FVec Ideal S2x4096x128 .f32) (hr : S2x4096x128.ReducesTo [2] S2x4096) (hn : 0 < S_.numel)
    (hb : S_.BroadcastsInDim S2x4096 (![] : Fin 0 → Fin S2x4096.rank))
    (h : cmpf .ogt (Host.reduceAdd (mulf x x) (constant S_ .f32 0x00000000#32) hr hn) (broadcastInDim S2x4096 ![] hb (constant S_ .f32 0x00000000#32)) = fun _ => 1#1)
    (b : Fin 2) (n : Fin 4096) : (0 : EReal) < ∑ c : Fin 128, (x (ix3 b n c) : EReal) * x (ix3 b n c) := by
  have e : Ideal.ofBits .f32 0x00000000#32 < (Host.reduceAdd (mulf x x) (constant S_ .f32 0x00000000#32) hr hn (ix2 b n) : EReal) := of_bit (congrFun h (ix2 b n))
  have s : (Host.reduceAdd (mulf x x) (constant S_ .f32 0x00000000#32) hr hn (ix2 b n) : EReal) = ∑ c : Fin 128, (x (ix3 b n c) : EReal) * x (ix3 b n c) := by
    pointwise
  rwa [s, zero_def] at e

/-- The precondition, of the arguments read at their coordinates. -/
theorem decode (m : (ℓ : Loc Cert.KernelIdeal.nD Cert.KernelIdeal.τ Cert.KernelIdeal.sig) → Buf (Elt Ideal) ℓ)
    (h : Cert.Pre_KernelIdeal_tame m) (c : Dev Cert.KernelIdeal.nD) : (Host.args m c).Tame := by
  obtain ⟨h0, h1, h2, h3, h4, h5, h6, h7⟩ := h c
  exact
    { points := fun b n j => reals _ _ h0 (ix3 b n j)
      feature := fun b n j => reals _ _ h1 (ix3 b n j)
      pos := fun b n => squares _ _ _ _ h2 b n
      w₁ := fun i j => reals _ _ h3 (ix2 i j)
      w₂ := fun i j => reals _ _ h4 (ix2 i j)
      conv := fun o i => reals _ _ h5 (ix2 o i)
      gw := fun o => reals _ _ h6 (ix1 o)
      gw_nonneg := fun o => nonneg _ _ h7 (ix1 o) }

end Cert.Pre_tame
-- ==== Proof.KernelRun.lean ====
/-
  THE KERNEL'S RUN: every execution ends with every buffer at what the host operations and the two kernels make of it.
-/
module

public import proofs.«01_k».proof.Proof.Gen.KernelIdeal.Frame

@[expose] public section

set_option maxRecDepth 16384

noncomputable section

namespace Cert.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable (m : (ℓ : Loc nD τ sig) → Buf (Elt Ideal) ℓ) (ρ : Dev nD → PrngReg)

local notation "𝕄" => MT nD τ sig Unit (Elt Ideal) ℕ (UR sig nD τ) ℕ

set_option backward.isDefEq.respectTransparency.types false in
/-- Every buffer that outlives the kernels holds at the end what the last valuation says. -/
theorem buffers : θ_run defs (onTc (τ := τ) (main (F := Ideal))) ⟨m, fun _ => 0, ρ⟩ (fun r => ∀ c : Dev nD,
      ∀ b ∈ Pipeline.ucRefs τ sig, r.2.mem (((c : Thread nD τ)).1, b) = W9 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun _ h _ => h)

end Cert.KernelRun
-- ==== Proof.PassB.Block.lean ====
/-
  THE SECOND CALL'S BLOCK. At row `r` and column `c` the stored block is a product over the 128 channels of the normalised and rectified largest
  values, one over the 128 features, and a bias. A channel's mean and variance are those of its group of 64 channels, from the sums that the first
  call leaves.
-/
module

public import proofs.«01_k».proof.Proof.Gen.KernelIdeal.Frame
public import proofs.«01_k».proof.Proof.Norm
public import Idealize.ShloMosaic.Lib.Pipeline.Value
public import Idealize.ShloMosaic.Lib.Pointwise
public import Idealize.ShloMosaic.Lib.WordCmp
public import Idealize.ShloMosaic.PureOps.Ideal.Laws

@[expose] public section

set_option maxRecDepth 16384

noncomputable section

namespace Cert.PassB

open Idealize.ShloMosaic Idealize.ShloMosaic.WordCmp Cert.KernelIdeal Cert.KernelIdeal.Gen Cert.Finite

variable (x0 : Vec Ideal S1x128x2048 .f32) (x1 : Vec Ideal S1x2x128x2 .f32) (x2 : Vec Ideal S1x128x2048 .f32) (x3 x4 : Vec Ideal S128x1 .f32)
  (x5 x6 : Vec Ideal S8x128 .f32) (x7 : Vec Ideal S8x1 .f32)

/-- The channel `i` of group `j`. -/
def chan (j : Fin 2) (i : Fin 64) : Fin 128 := ⟨64 * j.val + i.val, by omega⟩

/-- The group of channel `o`. -/
def grp (o : Fin 128) : Fin 2 := if o.val < 64 then 0 else 1

theorem grp_chan (j : Fin 2) (i : Fin 64) : grp (chan j i) = j := by
  unfold grp chan
  fin_cases j <;> simp

theorem sum_halves (f : Fin 128 → EReal) : ∑ o, f o = ∑ i, f (chan 0 i) + ∑ i, f (chan 1 i) := by
  refine (Fin.sum_univ_add (a := 64) (b := 64) f).trans (congrArg₂ (· + ·) (Finset.sum_congr rfl fun i _ => ?_) (Finset.sum_congr rfl fun i _ => ?_)) <;>
    exact congrArg f (Fin.ext (by simp [chan, Nat.add_comm]))

theorem sum_low (f : Fin 128 → EReal) : (∑ o : Fin 128, if o.val < 64 then f o else 0) = ∑ i, f (chan 0 i) := by
  rw [sum_halves]
  have h0 : ∀ i, (chan 0 i).val < 64 := fun i => by simp [chan]
  have h1 : ∀ i, ¬ (chan 1 i).val < 64 := fun i => by simp [chan]
  simp only [h0, h1, if_true, if_false, Finset.sum_const_zero, add_zero]

theorem sum_high (f : Fin 128 → EReal) : (∑ o : Fin 128, if o.val < 64 then 0 else f o) = ∑ i, f (chan 1 i) := by
  rw [sum_halves]
  have h0 : ∀ i, (chan 0 i).val < 64 := fun i => by simp [chan]
  have h1 : ∀ i, ¬ (chan 1 i).val < 64 := fun i => by simp [chan]
  simp only [h0, h1, if_true, if_false, Finset.sum_const_zero, zero_add]

/-- The number of values in a group. -/
abbrev count : EReal := Ideal.ofBits .f32 0x4AF00000#32

/-- What is added to a variance. -/
abbrev eps : EReal := Ideal.ofBits .f32 0x3727C5AC#32

/-- The slope of the rectifier on negative numbers. -/
abbrev slope : EReal := Ideal.ofBits .f32 0x3E4CCCCD#32

/-- A group's mean, from the channels' sums. -/
def mean (s : Fin 128 → EReal) (j : Fin 2) : EReal := Ideal.div (∑ i, s (chan j i)) count

/-- A group's variance, from the channels' sums and sums of squares. -/
def var (s q : Fin 128 → EReal) (j : Fin 2) : EReal := Ideal.div (∑ i, q (chan j i)) count - mean s j * mean s j

/-- A channel's scale. -/
def scale (s q w : Fin 128 → EReal) (o : Fin 128) : EReal := w o * Ideal.rsqrt (var s q (grp o) + eps)

/-- A channel's shift. -/
def shift (s q w b : Fin 128 → EReal) (o : Fin 128) : EReal := b o - mean s (grp o) * scale s q w o

/-- A channel's sum over the blocks of the first call: the values' (`j = 0`) or their squares' (`j = 1`). -/
def stat (j : Fin 2) (o : Fin 128) : EReal := ∑ i : Fin 2, x1 (ix4 0 i o j)

theorem mask_select {α : Type} (o : Fin 128) (x y : α) : Scalar.select (k1_pay7 (ix2 o 0)) x y = if o.val < 64 then x else y := by
  have e : k1_pay7 (ix2 o 0) = IntOp.cmpi .slt (BitVec.ofNat 32 o.val) (BitVec.ofNat 32 64) := by
    unfold k1_pay7
    pointwise
  rw [e, cmpi_slt_eq, toInt_ofNat_of_lt (by omega), toInt_ofNat_of_lt (by omega)]
  by_cases h : o.val < 64 <;> simp [Scalar.select, h]

theorem pay4_apply (o : Fin 128) (j : Fin 2) : k1_pay4 (View.ld x1 r1_1) (ix2 o j) = stat x1 j o := by
  unfold k1_pay4
  pointwise
  rfl

theorem sum_one (f : Fin 1 → EReal) : ∑ i, f i = f 0 := Fin.sum_univ_one f

theorem pay11_apply : k1_pay11 (View.ld x1 r1_1) = mean (stat x1 0) 0 := by
  unfold k1_pay11 k1_pay5
  pointwise
  simp only [mask_select, pay4_apply, sum_one]
  exact congrArg (Ideal.div · count) (sum_low _)

theorem pay8_apply : k1_pay8 (View.ld x1 r1_1) = ∑ i, stat x1 0 (chan 1 i) := by
  unfold k1_pay8 k1_pay5
  pointwise
  simp only [mask_select, pay4_apply, sum_one]
  exact sum_high _

theorem pay9_apply : k1_pay9 (View.ld x1 r1_1) = ∑ i, stat x1 1 (chan 0 i) := by
  unfold k1_pay9 k1_pay6
  pointwise
  simp only [mask_select, pay4_apply, sum_one]
  exact sum_low _

theorem pay10_apply : k1_pay10 (View.ld x1 r1_1) = ∑ i, stat x1 1 (chan 1 i) := by
  unfold k1_pay10 k1_pay6
  pointwise
  simp only [mask_select, pay4_apply, sum_one]
  exact sum_high _

theorem at_grp {α : Type} (f : Fin 2 → α) (o : Fin 128) : (if o.val < 64 then f 0 else f 1) = f (grp o) := by
  unfold grp
  split <;> rfl

theorem pay2_apply (o : Fin 128) (c : Fin 2048) : k1_pay2 (View.ld x0 r1_0) (ix2 o c) = x0 (ix3 0 o c) := by
  unfold k1_pay2
  pointwise

theorem pay3_apply (o : Fin 128) (c : Fin 2048) : k1_pay3 (View.ld x2 r1_0) (ix2 o c) = x2 (ix3 0 o c) := by
  unfold k1_pay3
  pointwise

/-- The stored block. -/
theorem out1_8_apply (r : Fin 8) (c : Fin 2048) :
    out1_8 x0 x1 x2 x3 x4 x5 x6 x7 (ix3 0 r c) =
      ∑ o : Fin 128, x5 (ix2 r o) * Norm.leaky slope (x0 (ix3 0 o c) * scale (stat x1 0) (stat x1 1) (fun o => x3 (ix2 o 0)) o
          + shift (stat x1 0) (stat x1 1) (fun o => x3 (ix2 o 0)) (fun o => x4 (ix2 o 0)) o)
        + ∑ i : Fin 128, x6 (ix2 r i) * x2 (ix3 0 i c) + x7 (ix2 r 0) := by
  have hz : (![0, 0, 0] : Fin 3 → ℕ) = fun _ => 0 := by funext i; fin_cases i <;> rfl
  unfold out1_8
  rw [View.canon_unit_zero (S := S1x8x2048) hz]
  unfold k1_pay1 k1_pay12
  pointwise
  simp only [mask_select, pay11_apply, pay8_apply, pay9_apply, pay10_apply]
  have hm : Ideal.div (∑ i, stat x1 0 (chan 1 i)) count = mean (stat x1 0) 1 := rfl
  have hv0 : Ideal.div (∑ i, stat x1 1 (chan 0 i)) count - mean (stat x1 0) 0 * mean (stat x1 0) 0 = var (stat x1 0) (stat x1 1) 0 := rfl
  have hv1 : Ideal.div (∑ i, stat x1 1 (chan 1 i)) count - mean (stat x1 0) 1 * mean (stat x1 0) 1 = var (stat x1 0) (stat x1 1) 1 := rfl
  simp only [hm, hv0, hv1]
  simp only [at_grp (mean (stat x1 0)), at_grp fun j : Fin 2 => (Scalar.rsqrt (var (stat x1 0) (stat x1 1) j + eps) : Ideal.Carrier .f32)]
  simp only [pay2_apply, pay3_apply]
  rfl

end Cert.PassB
-- ==== Proof.Arrays.lean ====
/-
  THE ARRAYS THE TWO KERNELS LEAVE, from what each grid point leaves in its blocks. Grid point `(b, i)` computes batch `b` at the points
  `2048 * i + x`.
-/
module

public import proofs.«01_k».proof.Proof.Host
public import proofs.«01_k».proof.Proof.PassB.Block
public import Idealize.ShloMosaic.Lib.Pipeline.ValueKit

@[expose] public section

set_option maxRecDepth 16384

noncomputable section

namespace Cert.Arrays

open Idealize.ShloMosaic Idealize.ShloMosaic.TcCoe Idealize.ShloMosaic.StableHlo Cert.KernelIdeal Cert.KernelIdeal.Gen Cert.Global
open Idealize.ShloMosaic.Pipeline Cert.Finite

/-- Point `x` of a block of columns `i`. -/
def col (i : Fin 2) (x : Fin 2048) : Fin 4096 := ⟨i.val * 2048 + x.val, by omega⟩

/-! ### Where the first kernel's blocks lie -/

def b0 (t : Fin cfg0.N) : Fin 2 := grid0.coords t 0
def i0 (t : Fin cfg0.N) : Fin 2 := grid0.coords t 1

theorem idx0 : ∀ t : Fin cfg0.N, win0_0.index t = ![(b0 t).val, 0, (i0 t).val] ∧ win0_1.index t = ![(b0 t).val, 0, (i0 t).val]
    ∧ win0_2.index t = ![(b0 t).val, 0, 0] ∧ win0_3.index t = ![(b0 t).val, 0, 0] ∧ win0_4.index t = ![0, 0] ∧ win0_5.index t = ![0, 0]
    ∧ win0_6.index t = ![0, 0] ∧ win0_7.index t = ![0, 0] ∧ win0_8.index t = ![(b0 t).val, 0, (i0 t).val]
    ∧ win0_9.index t = ![(b0 t).val, (i0 t).val, 0, 0] :=
  (by decide +kernel : ∀ t : Fin grid0.N, _)

variable (m : (ℓ : Loc nD τ sig) → Buf (Elt Ideal) ℓ) (ρ : Dev nD → PrngReg) (c : Dev nD)

theorem x0 (t : Fin cfg0.N) (s : Fin 120) (x : Fin 2048) :
    (iblk0 (V5 m ρ) c 0 t : FVec Ideal S1x120x2048 .f32) (ix3 0 s x) = (Host.args m c).sim (b0 t) (col (i0 t) x) s := by
  rw [← Host.sim m ρ c]
  blk_simp [iblk0]
  blk_ext [idx0 t, col]

theorem x1 (t : Fin cfg0.N) (j : Fin 3) (x : Fin 2048) :
    (iblk0 (V5 m ρ) c 1 t : FVec Ideal S1x3x2048 .f32) (ix3 0 j x) = (Host.args m c).points (b0 t) (col (i0 t) x) j := by
  rw [← Host.pts m ρ c]
  blk_simp [iblk0]
  blk_ext [idx0 t, col]

theorem x2 (t : Fin cfg0.N) (s : Fin 120) (i : Fin 128) :
    (iblk0 (V5 m ρ) c 2 t : FVec Ideal S1x120x128 .f32) (ix3 0 s i) = (Host.args m c).feature (b0 t) (key s) i := by
  rw [← Host.fs m ρ c]
  blk_simp [iblk0]
  blk_ext [idx0 t, col]

theorem x3 (t : Fin cfg0.N) (s : Fin 120) (j : Fin 3) :
    (iblk0 (V5 m ρ) c 3 t : FVec Ideal S1x120x3 .f32) (ix3 0 s j) = (Host.args m c).points (b0 t) (key s) j := by
  rw [← Host.kp m ρ c]
  blk_simp [iblk0]
  blk_ext [idx0 t, col]

theorem x6 (t : Fin cfg0.N) (o i : Fin 128) :
    (iblk0 (V5 m ρ) c 6 t : FVec Ideal S128x128 .f32) (ix2 o i) = (Host.args m c).conv o (lo i) := by
  rw [← Host.wf m ρ c]
  blk_simp [iblk0]
  blk_ext [idx0 t, col]

theorem x7 (t : Fin cfg0.N) (o : Fin 128) (j : Fin 3) :
    (iblk0 (V5 m ρ) c 7 t : FVec Ideal S128x3 .f32) (ix2 o j) = (Host.args m c).conv o (hi j) := by
  rw [← Host.wp m ρ c]
  blk_simp [iblk0]
  blk_ext [idx0 t, col]

theorem x4 (t : Fin cfg0.N) : PassA.Padded (iblk0 (V5 m ρ) c 4 t) (Host.args m c).w₁ where
  eq i j := by
    rw [← Host.w1_in m ρ c]
    blk_simp [iblk0]
    blk_ext [idx0 t]
  zero i j h := by
    rw [← Host.w1_out m ρ c i j h]
    blk_simp [iblk0]
    blk_ext [idx0 t]

theorem x5 (t : Fin cfg0.N) : PassA.Padded (iblk0 (V5 m ρ) c 5 t) (Host.args m c).w₂ where
  eq i j := by
    rw [← Host.w2_in m ρ c]
    blk_simp [iblk0]
    blk_ext [idx0 t]
  zero i j h := by
    rw [← Host.w2_out m ρ c i j h]
    blk_simp [iblk0]
    blk_ext [idx0 t]

end Cert.Arrays
-- ==== Proof.Region0.lean ====
/-
  WHAT THE FIRST KERNEL LEAVES: the greatest of a point's thirty values in every channel, and the sums of the values and of their squares.
-/
module

public import proofs.«01_k».proof.Proof.Arrays

@[expose] public section

set_option maxRecDepth 16384

noncomputable section

namespace Cert.Arrays

open Idealize.ShloMosaic Idealize.ShloMosaic.TcCoe Idealize.ShloMosaic.StableHlo Cert.KernelIdeal Cert.KernelIdeal.Gen Cert.Global
open Idealize.ShloMosaic.Pipeline Cert.Finite

/-- The sum of the values of a batch, block of points and channel, and the sum of their squares. -/
def statAt (a : Args) (b i : Fin 2) (o : Fin 128) (j : Fin 2) : EReal :=
  if j = 0 then ∑ x : Fin 2048, ∑ k, a.value b o (col i x) k
  else ∑ x : Fin 2048, ∑ k, a.value b o (col i x) k * a.value b o (col i x) k

theorem statAt_zero (a : Args) (b i : Fin 2) (o : Fin 128) : statAt a b i o 0 = ∑ x : Fin 2048, ∑ k, a.value b o (col i x) k := if_pos rfl
theorem statAt_one (a : Args) (b i : Fin 2) (o : Fin 128) :
    statAt a b i o 1 = ∑ x : Fin 2048, ∑ k, a.value b o (col i x) k * a.value b o (col i x) k := if_neg (by decide)

variable (m : (ℓ : Loc nD τ sig) → Buf (Elt Ideal) ℓ) (ρ : Dev nD → PrngReg) (c : Dev nD)

/-- The values a grid point computes are those of its batch and its points. -/
theorem valueOf_eq (t : Fin cfg0.N) (o : Fin 128) (x : Fin 2048) :
    PassA.valueOf (Host.args m c).w₁ (Host.args m c).w₂ (iblk0 (V5 m ρ) c 0 t) (iblk0 (V5 m ρ) c 1 t) (iblk0 (V5 m ρ) c 2 t) (iblk0 (V5 m ρ) c 3 t)
        (iblk0 (V5 m ρ) c 6 t) (iblk0 (V5 m ρ) c 7 t) o x
      = (Host.args m c).value (b0 t) o (col (i0 t) x) := by
  have e0 : PassA.simOf (iblk0 (V5 m ρ) c 0 t) x = (Host.args m c).sim (b0 t) (col (i0 t) x) := funext fun s => x0 m ρ c t s x
  funext k
  unfold PassA.valueOf Args.value
  rw [e0]
  congr 1
  · exact funext fun i => x6 m ρ c t o i
  · exact funext fun j => x7 m ρ c t o j
  · exact funext fun s => funext fun i => x2 m ρ c t s i
  · exact funext fun s => funext fun j => x3 m ρ c t s j
  · exact funext fun j => x1 m ρ c t j x

variable {m c} (h : (Host.args m c).Tame)
include h

theorem simOf_isReal (t : Fin cfg0.N) (x : Fin 2048) (s : Fin 120) : IsReal (PassA.simOf (iblk0 (V5 m ρ) c 0 t) x s) := by
  rw [show PassA.simOf (iblk0 (V5 m ρ) c 0 t) x s = _ from x0 m ρ c t s x]
  exact Args.sim_isReal h _ _ _

theorem x1_isReal (t : Fin cfg0.N) (j : S1x3x2048.Idx) : IsReal (iblk0 (V5 m ρ) c 1 t j) := by
  obtain ⟨p, q, rfl⟩ : ∃ (p : Fin 3) (q : Fin 2048), j = ix3 0 p q := ⟨j 1, j 2, (ValueIdx.eq_ix3 j).trans (congrArg (ix3 · _ _) (Subsingleton.elim (α := Fin 1) _ _))⟩
  rw [x1]
  exact h.points _ _ _

theorem x2_isReal (t : Fin cfg0.N) (j : S1x120x128.Idx) : IsReal (iblk0 (V5 m ρ) c 2 t j) := by
  obtain ⟨p, q, rfl⟩ : ∃ (p : Fin 120) (q : Fin 128), j = ix3 0 p q := ⟨j 1, j 2, (ValueIdx.eq_ix3 j).trans (congrArg (ix3 · _ _) (Subsingleton.elim (α := Fin 1) _ _))⟩
  rw [x2]
  exact h.feature _ _ _

theorem x3_isReal (t : Fin cfg0.N) (j : S1x120x3.Idx) : IsReal (iblk0 (V5 m ρ) c 3 t j) := by
  obtain ⟨p, q, rfl⟩ : ∃ (p : Fin 120) (q : Fin 3), j = ix3 0 p q := ⟨j 1, j 2, (ValueIdx.eq_ix3 j).trans (congrArg (ix3 · _ _) (Subsingleton.elim (α := Fin 1) _ _))⟩
  rw [x3]
  exact h.points _ _ _

theorem x6_isReal (t : Fin cfg0.N) (j : S128x128.Idx) : IsReal (iblk0 (V5 m ρ) c 6 t j) := by
  obtain ⟨p, q, rfl⟩ : ∃ (p q : Fin 128), j = ix2 p q := ⟨j 0, j 1, ValueIdx.eq_ix2 j⟩
  rw [x6]
  exact h.conv _ _

theorem x7_isReal (t : Fin cfg0.N) (j : S128x3.Idx) : IsReal (iblk0 (V5 m ρ) c 7 t j) := by
  obtain ⟨p, q, rfl⟩ : ∃ (p : Fin 128) (q : Fin 3), j = ix2 p q := ⟨j 0, j 1, ValueIdx.eq_ix2 j⟩
  rw [x7]
  exact h.conv _ _

/-- The greatest values, as an array. -/
theorem hmax : (W6 m ρ c (Proc.devRef .tc main_v56_0) : FVec Ideal S2x128x4096 .f32)
    = fun j => Finset.univ.sup ((Host.args m c).value (j 0) (j 1) (j 2)) := by
  refine (W6_arr m ρ c 8).trans ?_
  refine (dat0 (V5 m ρ) c).arrAt_eq_of_covers 8 _ (by decide +kernel) fun t _ y => ?_
  blk_simp
  rw [after0_8]
  obtain ⟨u, o, x, rfl⟩ : ∃ (u : Fin 1) (o : Fin 128) (x : Fin 2048), y = ix3 u o x := ⟨y 0, y 1, y 2, ValueIdx.eq_ix3 y⟩
  obtain rfl : u = 0 := Subsingleton.elim _ _
  rw [PassA.out0_8_apply (simOf_isReal ρ h t x) (x4 m ρ c t) (x5 m ρ c t) o, valueOf_eq]
  have e : (win0_8.blk t).view.emb (ix3 0 o x) = ix3 (b0 t) o (col (i0 t) x) := by blk_ext [idx0 t, col]
  rw [e]
  rfl

/-- The sums, as an array: for each batch, block of points and channel, the sum of the values and the sum of their squares. -/
theorem stats : (W6 m ρ c (Proc.devRef .tc main_v56_1) : FVec Ideal S2x2x128x2 .f32)
    = fun j => statAt (Host.args m c) (j 0) (j 1) (j 2) (j 3) := by
  refine (W6_arr m ρ c 9).trans ?_
  refine (dat0 (V5 m ρ) c).arrAt_eq_of_covers 9 _ (by decide +kernel) fun t _ y => ?_
  blk_simp
  rw [after0_9]
  obtain ⟨u, v, o, i, rfl⟩ : ∃ (u v : Fin 1) (o : Fin 128) (i : Fin 2), y = ix4 u v o i := ⟨y 0, y 1, y 2, y 3, ValueIdx.eq_ix4 y⟩
  obtain rfl : u = 0 := Subsingleton.elim _ _
  obtain rfl : v = 0 := Subsingleton.elim _ _
  have e : (win0_9.blk t).view.emb (ix4 0 0 o i) = ix4 (b0 t) (i0 t) o i := by blk_ext [idx0 t]
  rw [e]
  show _ = statAt (Host.args m c) (b0 t) (i0 t) o i
  obtain rfl | rfl : i = 0 ∨ i = 1 := by omega
  · rw [statAt_zero, PassA.out0_9_sum (fun x s => simOf_isReal ρ h t x s) (x4 m ρ c t) (x5 m ρ c t) o]
    simp only [valueOf_eq]
  · rw [statAt_one, PassA.out0_9_squares (fun x s => simOf_isReal ρ h t x s) (x4 m ρ c t) (x5 m ρ c t) h.w₁ h.w₂ (x1_isReal ρ h t)
      (x2_isReal ρ h t) (x3_isReal ρ h t) (x6_isReal ρ h t) (x7_isReal ρ h t) o]
    refine Finset.sum_congr rfl fun x _ => Finset.sum_congr rfl fun k _ => ?_
    have e := congrFun (valueOf_eq m ρ c t o x) k
    exact congrArg₂ (· * ·) e e

end Cert.Arrays
-- ==== Proof.Region1.lean ====
/-
  WHAT THE SECOND KERNEL LEAVES, and the kernel's result.
-/
module

public import proofs.«01_k».proof.Proof.Region0

@[expose] public section

set_option maxRecDepth 16384

noncomputable section

namespace Cert.Arrays

open Idealize.ShloMosaic Idealize.ShloMosaic.TcCoe Idealize.ShloMosaic.StableHlo Cert.KernelIdeal Cert.KernelIdeal.Gen Cert.Global
open Idealize.ShloMosaic.Pipeline Cert.Finite

/-- A channel's attended value at a point, as the kernel computes it: the greatest value, normalised by the sums over both blocks of points. -/
def attended (a : Args) (b : Fin 2) (o : Fin 128) (n : Fin 4096) : EReal :=
  Norm.leaky PassB.slope (Finset.univ.sup (a.value b o n)
      * PassB.scale (fun o => ∑ i, statAt a b i o 0) (fun o => ∑ i, statAt a b i o 1) a.gw o
    + PassB.shift (fun o => ∑ i, statAt a b i o 0) (fun o => ∑ i, statAt a b i o 1) a.gw a.gb o)

/-! ### Where the second kernel's blocks lie -/

def b1 (t : Fin cfg1.N) : Fin 2 := grid1.coords t 0
def i1 (t : Fin cfg1.N) : Fin 2 := grid1.coords t 1

theorem idx1 : ∀ t : Fin cfg1.N, win1_0.index t = ![(b1 t).val, 0, (i1 t).val] ∧ win1_1.index t = ![(b1 t).val, 0, 0, 0]
    ∧ win1_2.index t = ![(b1 t).val, 0, (i1 t).val] ∧ win1_3.index t = ![0, 0] ∧ win1_4.index t = ![0, 0] ∧ win1_5.index t = ![0, 0]
    ∧ win1_6.index t = ![0, 0] ∧ win1_7.index t = ![0, 0] ∧ win1_8.index t = ![(b1 t).val, 0, (i1 t).val] :=
  (by decide +kernel : ∀ t : Fin grid1.N, _)

variable (m : (ℓ : Loc nD τ sig) → Buf (Elt Ideal) ℓ) (ρ : Dev nD → PrngReg) (c : Dev nD)

/-- A buffer that only the first host operations write is at the second kernel as they left it. -/
theorem kept (r : Ref sig .tc) (h1 : r ∉ hostOps1_W) (h0 : ∀ w : Fin cfg0.W, arrRef spec0 w = r → (cfg0.win w).isOut = false) :
    W7 m ρ c (Proc.devRef .tc r) = W5 m ρ c (Proc.devRef .tc r) :=
  (W7_of m ρ c r h1).trans (W6_of m ρ c r h0)

theorem gw (o : Fin 128) : (W7 m ρ c (Proc.devRef .tc main_v57) : FVec Ideal S128x1 .f32) (ix2 o 0) = (Host.args m c).gw o := by
  unfold W7
  after_reads_simp
  pointwise
  exact congrFun (W6_args m ρ c main_arg6 (by decide)) (ix1 o)

theorem gb (o : Fin 128) : (W7 m ρ c (Proc.devRef .tc main_v58) : FVec Ideal S128x1 .f32) (ix2 o 0) = (Host.args m c).gb o := by
  unfold W7
  after_reads_simp
  pointwise
  exact congrFun (W6_args m ρ c main_arg7 (by decide)) (ix1 o)

theorem y2 (t : Fin cfg1.N) (i : Fin 128) (x : Fin 2048) :
    (iblk1 (V7 m ρ) c 2 t : FVec Ideal S1x128x2048 .f32) (ix3 0 i x) = (Host.args m c).feature (b1 t) (col (i1 t) x) i := by
  rw [← Host.feat m ρ c, ← kept m ρ c main_v22 (by decide) (by decide)]
  blk_simp [iblk1]
  blk_ext [idx1 t, col]

theorem y3 (t : Fin cfg1.N) (o : Fin 128) : (iblk1 (V7 m ρ) c 3 t : FVec Ideal S128x1 .f32) (ix2 o 0) = (Host.args m c).gw o := by
  rw [← gw m ρ c]
  blk_simp [iblk1]
  blk_ext [idx1 t]

theorem y4 (t : Fin cfg1.N) (o : Fin 128) : (iblk1 (V7 m ρ) c 4 t : FVec Ideal S128x1 .f32) (ix2 o 0) = (Host.args m c).gb o := by
  rw [← gb m ρ c]
  blk_simp [iblk1]
  blk_ext [idx1 t]

/-- Row `r` of the result among the eight the kernel computes. -/
abbrev row (r : Fin 3) : Fin 8 := Fin.castLE (by decide) r

theorem y5 (t : Fin cfg1.N) (r : Fin 3) (o : Fin 128) :
    (iblk1 (V7 m ρ) c 5 t : FVec Ideal S8x128 .f32) (ix2 (row r) o) = (Host.args m c).ow r (left o) := by
  rw [← Host.mwh m ρ c, ← kept m ρ c main_v46 (by decide) (by decide)]
  blk_simp [iblk1]
  blk_ext [idx1 t]

theorem y6 (t : Fin cfg1.N) (r : Fin 3) (i : Fin 128) :
    (iblk1 (V7 m ρ) c 6 t : FVec Ideal S8x128 .f32) (ix2 (row r) i) = (Host.args m c).ow r (right i) := by
  rw [← Host.mwf m ρ c, ← kept m ρ c main_v50 (by decide) (by decide)]
  blk_simp [iblk1]
  blk_ext [idx1 t]

theorem y7 (t : Fin cfg1.N) (r : Fin 3) : (iblk1 (V7 m ρ) c 7 t : FVec Ideal S8x1 .f32) (ix2 (row r) 0) = (Host.args m c).ob r := by
  rw [← Host.mb m ρ c, ← kept m ρ c main_v55 (by decide) (by decide)]
  blk_simp [iblk1]
  blk_ext [idx1 t]

variable {m c} (h : (Host.args m c).Tame)
include h

theorem y0 (t : Fin cfg1.N) (o : Fin 128) (x : Fin 2048) :
    (iblk1 (V7 m ρ) c 0 t : FVec Ideal S1x128x2048 .f32) (ix3 0 o x) = Finset.univ.sup ((Host.args m c).value (b1 t) o (col (i1 t) x)) := by
  refine Eq.trans ?_ (show (W7 m ρ c (Proc.devRef .tc main_v56_0) : FVec Ideal S2x128x4096 .f32) (ix3 (b1 t) o (col (i1 t) x)) = _ from
    congrFun ((W7_of m ρ c main_v56_0 (by decide)).trans (hmax ρ h)) _)
  blk_simp [iblk1]
  blk_ext [idx1 t, col]

theorem y1 (t : Fin cfg1.N) (j : Fin 2) (o : Fin 128) :
    PassB.stat (iblk1 (V7 m ρ) c 1 t : FVec Ideal S1x2x128x2 .f32) j o = ∑ i, statAt (Host.args m c) (b1 t) i o j := by
  refine Finset.sum_congr rfl fun i _ => ?_
  refine Eq.trans ?_ (show (W7 m ρ c (Proc.devRef .tc main_v56_1) : FVec Ideal S2x2x128x2 .f32) (ix4 (b1 t) i o j) = statAt (Host.args m c) (b1 t) i o j from
    congrFun ((W7_of m ρ c main_v56_1 (by decide)).trans (stats ρ h)) _)
  blk_simp [iblk1]
  blk_ext [idx1 t]

/-- What a grid point of the second kernel leaves in the first three rows of its block. -/
theorem block (t : Fin cfg1.N) (r : Fin 3) (x : Fin 2048) :
    out1_8 (iblk1 (V7 m ρ) c 0 t) (iblk1 (V7 m ρ) c 1 t) (iblk1 (V7 m ρ) c 2 t) (iblk1 (V7 m ρ) c 3 t) (iblk1 (V7 m ρ) c 4 t) (iblk1 (V7 m ρ) c 5 t)
        (iblk1 (V7 m ρ) c 6 t) (iblk1 (V7 m ρ) c 7 t) (ix3 0 (row r) x)
      = (Host.args m c).out (attended (Host.args m c)) (b1 t) r (col (i1 t) x) := by
  have e1 : ∀ j, PassB.stat (iblk1 (V7 m ρ) c 1 t : FVec Ideal S1x2x128x2 .f32) j = fun o => ∑ i, statAt (Host.args m c) (b1 t) i o j :=
    fun j => funext fun o => y1 ρ h t j o
  have e3 : (fun o : Fin 128 => (iblk1 (V7 m ρ) c 3 t : FVec Ideal S128x1 .f32) (ix2 o 0)) = (Host.args m c).gw := funext fun o => y3 m ρ c t o
  have e4 : (fun o : Fin 128 => (iblk1 (V7 m ρ) c 4 t : FVec Ideal S128x1 .f32) (ix2 o 0)) = (Host.args m c).gb := funext fun o => y4 m ρ c t o
  rw [PassB.out1_8_apply, e1, e1, e3, e4, y7]
  simp only [y0 ρ h, y2, y5, y6]
  rfl

/-- The first three rows of the second kernel's array. -/
theorem rows (b : Fin 2) (r : Fin 3) (n : Fin 4096) :
    (W8 m ρ c (Proc.devRef .tc main_v59) : FVec Ideal S2x8x4096 .f32) (ix3 b (row r) n) = (Host.args m c).out (attended (Host.args m c)) b r n := by
  have key := (dat1 (V7 m ρ) c).arrAt_forall_of_covers 8
    (fun (i : S2x8x4096.Idx) (v : EReal) => ∀ r : Fin 3, i 1 = row r → v = (Host.args m c).out (attended (Host.args m c)) (i 0) r (i 2))
    (by decide +kernel) (fun t _ y => ?_) (ix3 b (row r) n)
  · exact (congrFun (W8_arr m ρ c 8) _).trans (key r rfl)
  · obtain ⟨u, q, x, rfl⟩ : ∃ (u : Fin 1) (q : Fin 8) (x : Fin 2048), y = ix3 u q x := ⟨y 0, y 1, y 2, ValueIdx.eq_ix3 y⟩
    obtain rfl : u = 0 := Subsingleton.elim _ _
    blk_simp
    rw [after1_8]
    have e : (win1_8.blk t).view.emb (ix3 0 q x) = ix3 (b1 t) q (col (i1 t) x) := by blk_ext [idx1 t, col]
    rw [e]
    rintro r (rfl : q = row r)
    exact block ρ h t r x

/-- The kernel's result. -/
theorem result : (W9 m ρ c (Proc.devRef .tc main_v60) : FVec Ideal S2x3x4096 .f32)
    = fun j => (Host.args m c).out (attended (Host.args m c)) (j 0) (j 1) (j 2) := by
  funext j
  obtain ⟨b, r, n, rfl⟩ : ∃ (b : Fin 2) (r : Fin 3) (n : Fin 4096), j = ix3 b r n := ⟨j 0, j 1, j 2, ValueIdx.eq_ix3 j⟩
  refine Eq.trans ?_ (rows ρ h b r n)
  unfold W9
  after_reads_simp
  pointwise
  rfl

end Cert.Arrays
-- ==== Proof.Reads.lean ====
/-
  THE REFERENCE'S OPERATIONS, read at an index: the similarities, the ranking and the gathers.
-/
module

public import proofs.«01_k».proof.Proof.Global
public import proofs.«01_k».proof.Proof.Gen.ReferenceIdeal.Run

@[expose] public section

set_option maxRecDepth 16384

noncomputable section

namespace Cert.Reads

open Idealize.ShloMosaic Idealize.ShloMosaic.StableHlo Cert.ReferenceIdeal Cert.ReferenceIdeal.Gen Cert.ReferenceIdeal.Value Cert.Global Cert.Finite

variable (V : Valuation τ sig (Elt Ideal))

/-- The arguments, as functions of coordinates. -/
def args : Args where
  points b n j := (V (Proc.devRef .tc main_arg0) : FVec Ideal S2x4096x3 .f32) (ix3 b n j)
  feature b n j := (V (Proc.devRef .tc main_arg1) : FVec Ideal S2x4096x128 .f32) (ix3 b n j)
  inst b n j := (V (Proc.devRef .tc main_arg2) : FVec Ideal S2x4096x128 .f32) (ix3 b n j)
  w₁ i j := (V (Proc.devRef .tc main_arg3) : FVec Ideal S30x30 .f32) (ix2 i j)
  w₂ i j := (V (Proc.devRef .tc main_arg4) : FVec Ideal S30x30 .f32) (ix2 i j)
  conv o i := (V (Proc.devRef .tc main_arg5) : FVec Ideal S128x131 .f32) (ix2 o i)
  gw o := (V (Proc.devRef .tc main_arg6) : FVec Ideal S128 .f32) (ix1 o)
  gb o := (V (Proc.devRef .tc main_arg7) : FVec Ideal S128 .f32) (ix1 o)
  ow r i := (V (Proc.devRef .tc main_arg8) : FVec Ideal S3x256 .f32) (ix2 r i)
  ob r := (V (Proc.devRef .tc main_arg9) : FVec Ideal S3 .f32) (ix1 r)

/-- Both programs hold the same table of key points. -/
theorem table : Cert.ReferenceIdeal.lit0 = Cert.KernelIdeal.lit0 := rfl

theorem inst_key (b : Fin 2) (s : Fin 120) (j : Fin 128) :
    (res_main_v20 V : FVec Ideal S2x120x128 .f32) (ix3 b s j) = (args V).inst b (key s) j := by
  unfold res_main_v20
  rw [Gathers.rows _ rfl rfl rfl rfl rfl rfl rfl]
  pointwise [res_main_c]
  rfl

theorem one_def : Ideal.ofBits .f32 0x3F800000#32 = ((1 : ℝ) : EReal) := by
  simp [Ideal.ofBits, Ideal.ieee, -EReal.coe_mul, -EReal.coe_one]
  norm_num

/-- The distance of a point to a key point, with the sign that makes the nearest the largest. -/
theorem dist (h : (args V).Tame) (b : Fin 2) (n : Fin 4096) (s : Fin 120) :
    (res_main_v30 V : FVec Ideal S2x4096x120 .f32) (ix3 b n s) = Spec.dist ((args V).sim b n) s := by
  have e : (res_main_v30 V : FVec Ideal S2x4096x120 .f32) (ix3 b n s) = (-(((1 : ℝ) : EReal) - (args V).sim b n s) : EReal) := by
    unfold res_main_v30
    pointwise
    simp only [inst_key, one_def]
    rfl
  obtain ⟨x, hx⟩ := Args.sim_isReal h b n s
  refine e.trans ?_
  unfold Spec.dist
  rw [hx, ← EReal.coe_one, ← EReal.coe_sub, ← EReal.coe_sub, ← EReal.coe_neg, neg_sub]

/-! ### The ranking -/

/-- The key point that the reference's stable sort of a point's distances puts at place `k`. -/
def place (x : FVec Ideal S2x4096x120 .f32) (b : Fin 2) (n : Fin 4096) (k : Fin 30) : Fin 120 :=
  sortedFrom (fun p q : Fin 120 => FloatOps.cmpfTotal (F := Ideal) (φ := .f32) .gt (x (ix3 b n p)) (x (ix3 b n q)) == 1#1) (Fin.castLE (by decide) k)

theorem along (b : Fin 2) (n : Fin 4096) (k s : Fin 120) : (ix3 b n k : S2x4096x120.Idx).along 2 s = ix3 b n s := by
  funext a
  match a with
  | ⟨0, _⟩ => rfl
  | ⟨1, _⟩ => rfl
  | ⟨2, _⟩ => rfl

theorem rel_along (x : FVec Ideal S2x4096x120 .f32) (b : Fin 2) (n : Fin 4096) (k : Fin 30) :
    (fun p q : Fin 120 => FloatOps.cmpfTotal (F := Ideal) (φ := .f32) .gt (x ((ix3 b n (Fin.castLE (by decide) k) : S2x4096x120.Idx).along 2 p)) (x ((ix3 b n (Fin.castLE (by decide) k) : S2x4096x120.Idx).along 2 q)) == 1#1)
      = fun p q : Fin 120 => FloatOps.cmpfTotal (F := Ideal) (φ := .f32) .gt (x (ix3 b n p)) (x (ix3 b n q)) == 1#1 := by
  funext p q
  rw [along, along]

theorem top_fst (x : FVec Ideal S2x4096x120 .f32) (b : Fin 2) (n : Fin 4096) (k : Fin 30) :
    (Host.topK S2x4096x30 2 (FloatOps.cmpfTotal .gt) x sliceFits_S2x4096x120_S2x4096x30).1 (ix3 b n k) = x (ix3 b n (place x b n k)) := by
  unfold Host.topK Host.sort2
  pointwise
  refine (congrArg x (along b n (Fin.castLE (by decide) k) _)).trans ?_
  exact congrArg (fun f => x (ix3 b n (sortedFrom f (Fin.castLE (by decide) k)))) (rel_along x b n k)

theorem top_snd (x : FVec Ideal S2x4096x120 .f32) (b : Fin 2) (n : Fin 4096) (k : Fin 30) :
    (Host.topK S2x4096x30 2 (FloatOps.cmpfTotal .gt) x sliceFits_S2x4096x120_S2x4096x30).2 (ix3 b n k) = BitVec.ofNat 32 (place x b n k).val := by
  unfold Host.topK Host.sort2
  pointwise
  refine (congrArg (fun i : S2x4096x120.Idx => BitVec.ofNat 32 (i 2).val) (along b n (Fin.castLE (by decide) k) _)).trans ?_
  exact congrArg (fun f => BitVec.ofNat 32 (sortedFrom f (Fin.castLE (by decide) k)).val) (rel_along x b n k)

/-- The rank of key points in the reference is the selection by repeated maximum. -/
theorem place_eq (h : (args V).Tame) (b : Fin 2) (n : Fin 4096) (k : Fin 30) :
    place (res_main_v30 V) b n k = Spec.near ((args V).sim b n) k.val := by
  unfold Spec.near
  refine Eq.trans ?_ (Pick.sortedFrom_eq_pick (Spec.dist_ne_bot (Args.sim_isReal h b n)) (Fin.castLE (by decide) k))
  unfold place
  congr 1
  funext p q
  rw [dist V h, dist V h]
  show (BitVec.ofBool (decide _) == 1#1) = _
  by_cases hd : Spec.dist ((args V).sim b n) q < Spec.dist ((args V).sim b n) p
  · simp [hd]
  · simp [hd]

theorem top (h : (args V).Tame) (b : Fin 2) (n : Fin 4096) (k : Fin 30) :
    ((Host.topK S2x4096x30 2 (FloatOps.cmpfTotal .gt) (res_main_v30 V : FVec Ideal S2x4096x120 .f32) sliceFits_S2x4096x120_S2x4096x30).1 : FVec Ideal S2x4096x30 .f32) (ix3 b n k)
      = Spec.dist ((args V).sim b n) (Spec.near ((args V).sim b n) k.val) := by
  rw [top_fst, place_eq V h, dist V h]

theorem index (h : (args V).Tame) (b : Fin 2) (n : Fin 4096) (k : Fin 30) :
    (res_main_indices V : IVec S2x4096x30 32) (ix3 b n k) = BitVec.ofNat 32 (Spec.near ((args V).sim b n) k.val).val :=
  (top_snd _ b n k).trans (by rw [place_eq V h])

/-- A key point's number, wrapped and clamped, is the key point. -/
theorem row_key : ∀ s : Fin 120, Gathers.rowOf 119 (Scalar.select (IntOp.cmpi .slt (BitVec.ofNat 32 s.val) 0#32) (IntOp.addi (BitVec.ofNat 32 s.val) 120#32) (BitVec.ofNat 32 s.val)) = s := by
  decide +kernel

/-- A batch's number, wrapped and clamped, is the batch. -/
theorem row_batch : ∀ b : Fin 2, Gathers.rowOf 1 (Scalar.select (IntOp.cmpi .slt (BitVec.ofNat 32 b.val) 0#32) (IntOp.addi (BitVec.ofNat 32 b.val) 2#32) (BitVec.ofNat 32 b.val)) = b := by
  decide +kernel

/-! ### The attention -/

theorem negInf_def : Ideal.ofBits .f32 0xFF800000#32 = ⊥ := by simp [Ideal.ofBits, Ideal.ieee]

theorem logits (h : (args V).Tame) (b : Fin 2) (n : Fin 4096) (k : Fin 30) :
    (res_main_v69 V : FVec Ideal S2x4096x30 .f32) (ix3 b n k)
      = Attention.logits (args V).w₁ (args V).w₂ (fun k => Spec.dist ((args V).sim b n) (Spec.near ((args V).sim b n) k.val)) k := by
  unfold res_main_v69
  pointwise
  simp only [top V h]
  unfold Attention.logits Attention.relu Attention.apply
  have key : ∀ (u v : Fin 30 → Fin 30 → EReal) (t : Fin 30 → EReal), (∑ j, max (∑ i, t i * u j i) 0 * v k j : EReal) = ∑ j, v k j * max (∑ i, u j i * t i) 0 :=
    fun u v t => Finset.sum_congr rfl fun j _ => (mul_comm _ _).trans (congrArg₂ HMul.hMul rfl (congrArg₂ max (Finset.sum_congr rfl fun i _ => mul_comm _ _) rfl))
  exact key (args V).w₁ (args V).w₂ _

/-- The greatest of the thirty values of a point. -/
theorem peak (x : FVec Ideal S2x4096x30 .f32) (b : Fin 2) (n : Fin 4096) :
    Host.reduce FloatOps.maximumf x (constant S_ .f32 0xFF800000#32) reducesTo_S2x4096x30_S2x4096_d2 h_S_ (ix2 b n)
      = Finset.univ.sup fun k => x (ix3 b n k) := by
  pointwise
  rw [negInf_def]
  rfl

/-- The exponentials of a point's values, the greatest subtracted first. -/
def expo (x : FVec Ideal S2x4096x30 .f32) : FVec Ideal S2x4096x30 .f32 :=
  Host.exp (subf x (broadcastInDim S2x4096x30 ![0, 1, 2] bcast_S2x4096x1_S2x4096x30_0_1_2 (broadcastInDim S2x4096x1 ![0, 1] bcast_S2x4096_S2x4096x1_0_1 (maximumf (broadcastInDim S2x4096 ![] bcast_S_S2x4096 (constant S_ .f32 0xFF800000#32)) (Host.reduce FloatOps.maximumf x (constant S_ .f32 0xFF800000#32) reducesTo_S2x4096x30_S2x4096_d2 h_S_)))))

theorem expo_apply (x : FVec Ideal S2x4096x30 .f32) (b : Fin 2) (n : Fin 4096) (k : Fin 30) :
    expo x (ix3 b n k) = Ideal.exp (x (ix3 b n k) - Finset.univ.sup fun k => x (ix3 b n k)) := by
  rw [← peak]
  pointwise [expo]
  rw [negInf_def, max_eq_right bot_le]

theorem attn (h : (args V).Tame) (b : Fin 2) (n : Fin 4096) (k : Fin 30) :
    Ideal.div ((res_main_v76 V : FVec Ideal S2x4096x30 .f32) (ix3 b n k)) (∑ j, ((res_main_v76 V : FVec Ideal S2x4096x30 .f32) (ix3 b n j) : EReal))
      = Spec.attn (args V).w₁ (args V).w₂ ((args V).sim b n) k := by
  show Ideal.div (expo (res_main_v69 V) (ix3 b n k)) (∑ j, (expo (res_main_v69 V) (ix3 b n j) : EReal)) = _
  simp only [expo_apply, logits V h]
  rfl

/-! ### The neighbours' values -/

/-- The index words of the neighbours: the batch and the key point, each wrapped when negative. -/
def words : IVec S2x4096x30x2 32 :=
  concatenate S2x4096x30x2 3 [⟨S2x4096x30x1, (broadcastInDim S2x4096x30x1 ![0, 1, 2] bcast_S2x4096x30_S2x4096x30x1_0_1_2 (broadcastInDim S2x4096x30 ![0, 1, 2] bcast_S2x1x1_S2x4096x30_0_1_2 (select (cmpi .slt (res_main_v32 V : IVec S2x1x1 32) (broadcastInDim S2x1x1 ![] bcast_S_S2x1x1 (constantI S_ 32 0#32))) (addi (res_main_v32 V) (broadcastInDim S2x1x1 ![] bcast_S_S2x1x1 (constantI S_ 32 2#32))) (res_main_v32 V))))⟩, ⟨S2x4096x30x1, (broadcastInDim S2x4096x30x1 ![0, 1, 2] bcast_S2x4096x30_S2x4096x30x1_0_1_2 (select (cmpi .slt (res_main_indices V : IVec S2x4096x30 32) (broadcastInDim S2x4096x30 ![] bcast_S_S2x4096x30 (constantI S_ 32 0#32))) (addi (res_main_indices V) (broadcastInDim S2x4096x30 ![] bcast_S_S2x4096x30 (constantI S_ 32 120#32))) (res_main_indices V)))⟩] concatenates_S2x4096x30x1_S2x4096x30x1_S2x4096x30x2_d3

theorem words_batch (b : Fin 2) (n : Fin 4096) (k : Fin 30) : Gathers.rowOf 1 (words V (ix4 b n k 0)) = b := by
  refine Eq.trans ?_ (row_batch b)
  pointwise [words, res_main_v32]

theorem words_key (h : (args V).Tame) (b : Fin 2) (n : Fin 4096) (k : Fin 30) :
    Gathers.rowOf 119 (words V (ix4 b n k 1)) = Spec.near ((args V).sim b n) k.val := by
  refine Eq.trans ?_ (row_key _)
  pointwise [words]
  simp only [index V h]

theorem near_feature (h : (args V).Tame) (b : Fin 2) (n : Fin 4096) (k : Fin 30) (i : Fin 128) :
    Host.gather gather_S2x120x128_S2x4096x30x2_S2x4096x30x128_3_01_n_n_01_3_11128 (Host.gather gather_S2x4096x128_S120x1_S2x120x128_02_1_n_n_1_1_21128 (V (Proc.devRef .tc main_arg1) : FVec Ideal S2x4096x128 .f32) (broadcastInDim S120x1 ![0] bcast_S120_S120x1_0 (select (cmpi .slt (res_main_c V : IVec S120 32) (broadcastInDim S120 ![] bcast_S_S120 (constantI S_ 32 0#32))) (addi (res_main_c V : IVec S120 32) (broadcastInDim S120 ![] bcast_S_S120 (constantI S_ 32 4096#32))) (res_main_c V : IVec S120 32)))) (words V) (ix4 b n k i)
      = (args V).feature b (key (Spec.near ((args V).sim b n) k.val)) i := by
  rw [Gathers.pairs _ rfl rfl rfl rfl rfl rfl rfl, words_batch, words_key V h, Gathers.rows _ rfl rfl rfl rfl rfl rfl rfl]
  pointwise [res_main_c]
  rfl

theorem near_points (h : (args V).Tame) (b : Fin 2) (n : Fin 4096) (k : Fin 30) (j : Fin 3) :
    Host.gather gather_S2x120x3_S2x4096x30x2_S2x4096x30x3_3_01_n_n_01_3_113 (Host.gather gather_S2x4096x3_S120x1_S2x120x3_02_1_n_n_1_1_213 (V (Proc.devRef .tc main_arg0) : FVec Ideal S2x4096x3 .f32) (broadcastInDim S120x1 ![0] bcast_S120_S120x1_0 (select (cmpi .slt (res_main_c V : IVec S120 32) (broadcastInDim S120 ![] bcast_S_S120 (constantI S_ 32 0#32))) (addi (res_main_c V : IVec S120 32) (broadcastInDim S120 ![] bcast_S_S120 (constantI S_ 32 4096#32))) (res_main_c V : IVec S120 32)))) (words V) (ix4 b n k j)
      = (args V).points b (key (Spec.near ((args V).sim b n) k.val)) j := by
  rw [Gathers.pairs _ rfl rfl rfl rfl rfl rfl rfl, words_batch, words_key V h, Gathers.rows _ rfl rfl rfl rfl rfl rfl rfl]
  pointwise [res_main_c]
  rfl

/-- Channel `i` of group `g`. -/
def chan (g : Fin 2) (i : Fin 64) : Fin 128 := ⟨g.val * 64 + i.val, by omega⟩

theorem value (h : (args V).Tame) (b g : Fin 2) (i : Fin 64) (k : Fin 30) (n : Fin 4096) :
    (res_main_v87 V : FVec Ideal S2x2x64x30x4096 .f32) (ix5 b g i k n) = (args V).value b (chan g i) n k := by
  refine Eq.trans ?_ (Neighbour.value_eq (Spec.attn_isReal h.w₁ h.w₂ (Args.sim_isReal h b n) k) (fun _ => h.feature _ _ _) (fun _ => h.conv _ _)
    (fun _ => h.points _ _ _) (fun _ => h.points _ _ _) (fun _ => h.conv _ _)).symm
  unfold res_main_v87
  pointwise
  refine congrArg₂ _ (Finset.sum_congr rfl fun x _ => ?_) (Finset.sum_congr rfl fun x _ => ?_)
  · exact congrArg₂ _ (congrArg₂ _ (near_feature V h b n k x) (attn V h b n k)) rfl
  · exact congrArg₂ _ (congrArg₂ _ (congrArg₂ _ (near_points V h b n k x) rfl) (attn V h b n k)) rfl

end Cert.Reads
-- ==== Proof.Group.lean ====
/-
  THE GROUP NORM, as the reference computes it: every value less its group's mean, over the root of the group's mean squared deviation, and the
  greatest of a point's thirty normed values last. It is what the kernel computes from the greatest value and the sums (`attended_eq`).
-/
module

public import proofs.«01_k».proof.Proof.Region1

@[expose] public section

set_option maxRecDepth 16384

noncomputable section

namespace Cert.Group

open Idealize.ShloMosaic Cert.Global Cert.Finite Cert.Arrays
open Cert.PassB (chan grp count eps slope)

/-! ### The constants -/

theorem count_def : count = ((7864320 : ℝ) : EReal) := by
  show Ideal.ofBits .f32 0x4AF00000#32 = _
  simp [Ideal.ofBits, Ideal.ieee, -EReal.coe_mul]
  norm_num

theorem eps_def : ∃ e : ℝ, 0 < e ∧ eps = (e : EReal) := by
  refine ⟨_, ?_, show Ideal.ofBits .f32 0x3727C5AC#32 = _ by simp [Ideal.ofBits, Ideal.ieee, -EReal.coe_mul]; rfl⟩
  norm_num

theorem slope_def : ∃ l : ℝ, 0 < l ∧ slope = (l : EReal) := by
  refine ⟨_, ?_, show Ideal.ofBits .f32 0x3E4CCCCD#32 = _ by simp [Ideal.ofBits, Ideal.ieee, -EReal.coe_mul]; rfl⟩
  norm_num

/-! ### The sums -/

/-- A sum over both blocks of points is a sum over the points. -/
theorem sum_col (f : Fin 4096 → EReal) : ∑ i, ∑ x, f (col i x) = ∑ n, f n := by
  rw [← Fintype.sum_prod_type' (f := fun i x => f (col i x))]
  refine Fintype.sum_equiv finProdFinEquiv (fun p : Fin 2 × Fin 2048 => f (col p.1 p.2)) f fun p => congrArg f (Fin.ext ?_)
  show p.1.val * 2048 + p.2.val = p.2.val + 2048 * p.1.val
  omega

/-- The places of a group: a channel, a neighbour and a point. -/
abbrev Place : Type := Fin 64 × Fin 30 × Fin 4096

theorem sum_place (F : Place → EReal) : ∑ i, ∑ k, ∑ n, F (i, k, n) = ∑ p, F p := by
  rw [Fintype.sum_prod_type]
  exact Finset.sum_congr rfl fun i _ => (Fintype.sum_prod_type fun q : Fin 30 × Fin 4096 => F (i, q)).symm

theorem sum_blocks (G : Fin 128 → Fin 4096 → Fin 30 → EReal) (g : Fin 2) :
    ∑ i, ∑ j, ∑ x, ∑ k, G (chan g i) (col j x) k = ∑ p : Place, G (chan g p.1) p.2.2 p.2.1 := by
  rw [← sum_place]
  refine Finset.sum_congr rfl fun i _ => ?_
  rw [sum_col fun n => ∑ k, G (chan g i) n k]
  exact Finset.sum_comm

/-! ### The norm -/

variable (a : Args)

/-- A group's mean. -/
def mean (b g : Fin 2) : EReal := Ideal.div (∑ p : Place, a.value b (chan g p.1) p.2.2 p.2.1) count

/-- A group's mean squared deviation. -/
def var (b g : Fin 2) : EReal :=
  Ideal.div (∑ p : Place, (a.value b (chan g p.1) p.2.2 p.2.1 - mean a b g) * (a.value b (chan g p.1) p.2.2 p.2.1 - mean a b g)) count

/-- A value normed, weighted and shifted. -/
def normed (b : Fin 2) (o : Fin 128) (n : Fin 4096) (k : Fin 30) : EReal :=
  Ideal.div (a.value b o n k - mean a b (grp o)) (Ideal.sqrt (var a b (grp o) + eps)) * a.gw o + a.gb o

variable {a}

/-- THE KERNEL'S ATTENDED CHANNEL IS THE REFERENCE'S: the greatest of the normed and rectified values. -/
theorem attended_eq (h : a.Tame) (b : Fin 2) (o : Fin 128) (n : Fin 4096) :
    attended a b o n = Finset.univ.sup fun k => Norm.leaky slope (normed a b o n k) := by
  choose f hf using fun o n k => Args.value_isReal h b o n k
  obtain ⟨w, hw⟩ := h.gw o
  have hw0 : 0 ≤ w := by
    have := h.gw_nonneg o
    rwa [hw, EReal.coe_nonneg] at this
  obtain ⟨e, he, hee⟩ := eps_def
  obtain ⟨l, hl, hll⟩ := slope_def
  set g := grp o with hg
  let F : Place → ℝ := fun p => f (chan g p.1) p.2.2 p.2.1
  have hN : (7864320 : ℝ) ≠ 0 := by norm_num
  have hcard : (Fintype.card Place : ℝ) = 7864320 := by
    simp only [Place, Fintype.card_prod, Fintype.card_fin]
    norm_num
  have hm : mean a b g = (((∑ p, F p) / 7864320 : ℝ) : EReal) := by
    unfold mean
    simp only [hf, coe_sum, count_def]
    exact div_coe_coe _ hN
  have hm' : PassB.mean (fun o => ∑ i, statAt a b i o 0) g = (((∑ p, F p) / 7864320 : ℝ) : EReal) := by
    rw [← hm]
    unfold PassB.mean mean
    simp only [statAt_zero]
    rw [sum_blocks (a.value b) g]
  have hv : var a b g = (((∑ p, (F p - (∑ q, F q) / 7864320) * (F p - (∑ q, F q) / 7864320)) / 7864320 : ℝ) : EReal) := by
    unfold var
    rw [hm, count_def]
    simp only [hf, ← EReal.coe_sub, ← EReal.coe_mul, coe_sum]
    exact div_coe_coe _ hN
  have hv' : PassB.var (fun o => ∑ i, statAt a b i o 0) (fun o => ∑ i, statAt a b i o 1) g
      = (((∑ p, (F p - (∑ q, F q) / 7864320) * (F p - (∑ q, F q) / 7864320)) / 7864320 : ℝ) : EReal) := by
    rw [Norm.var_identity F _ hN hcard]
    unfold PassB.var
    rw [hm']
    simp only [statAt_one]
    rw [sum_blocks (fun o n k => a.value b o n k * a.value b o n k) g, count_def]
    simp only [hf, ← EReal.coe_mul, coe_sum]
    rw [div_coe_coe _ hN, ← EReal.coe_sub]
  have hpos : 0 < (∑ p, (F p - (∑ q, F q) / 7864320) * (F p - (∑ q, F q) / 7864320)) / 7864320 + e :=
    add_pos_of_nonneg_of_pos (Norm.var_nonneg F _ _ (by norm_num)) he
  unfold attended PassB.shift PassB.scale normed
  rw [← hg, hm', hv', hm, hv, hw, hee, hll]
  rw [show a.value b o n = fun k => ((f o n k : ℝ) : EReal) from funext (hf o n)]
  simp only [← EReal.coe_add]
  exact Norm.norm_max (fun k => f o n k) w _ _ l hw0 hpos hl (a.gb o)

end Cert.Group
-- ==== Proof.Output.lean ====
/-
  THE REFERENCE'S RESULT, read at an index.
-/
module

public import proofs.«01_k».proof.Proof.Reads
public import proofs.«01_k».proof.Proof.Group

@[expose] public section

set_option maxRecDepth 16384

noncomputable section

namespace Cert.Reads

open Idealize.ShloMosaic Idealize.ShloMosaic.StableHlo Cert.ReferenceIdeal Cert.ReferenceIdeal.Gen Cert.ReferenceIdeal.Value Cert.Global Cert.Finite

variable (V : Valuation τ sig (Elt Ideal))

theorem chan_eq (g : Fin 2) (i : Fin 64) : chan g i = PassB.chan g i := Fin.ext (by simp [chan, PassB.chan, Nat.mul_comm])

/-- The number of values that the variance divides by is the count the mean divides by. -/
theorem count_eq (j : S_.Idx) : (res_main_call3_v8 V : FVec Ideal S_ .f32) j = PassB.count := by
  pointwise [res_main_call3_v8]
  show (PassB.count - (((0#32 : BitVec 32).toInt : ℝ) : EReal) : EReal) = _
  simp

/-- A group's mean, from the reference's triple sum. -/
theorem mean_eq (a : Args) (b g : Fin 2) :
    Ideal.div (∑ i, ∑ k, ∑ n, a.value b (PassB.chan g i) n k) PassB.count = Group.mean a b g :=
  congrArg (Ideal.div · PassB.count) (Group.sum_place fun p => a.value b (PassB.chan g p.1) p.2.2 p.2.1)

/-- A group's mean squared deviation, from the reference's triple sum. -/
theorem var_eq (a : Args) (b g : Fin 2) :
    Ideal.div (∑ i, ∑ k, ∑ n, (a.value b (PassB.chan g i) n k - Group.mean a b g) * (a.value b (PassB.chan g i) n k - Group.mean a b g)) PassB.count
      = Group.var a b g :=
  congrArg (Ideal.div · PassB.count) (Group.sum_place fun p =>
    (a.value b (PassB.chan g p.1) p.2.2 p.2.1 - Group.mean a b g) * (a.value b (PassB.chan g p.1) p.2.2 p.2.1 - Group.mean a b g))

theorem dev (h : (args V).Tame) (b g : Fin 2) (i : Fin 64) (k : Fin 30) (n : Fin 4096) :
    (res_main_call3_v5 V : FVec Ideal S2x2x64x30x4096 .f32) (ix5 b g i k n)
      = ((args V).value b (PassB.chan g i) n k - Group.mean (args V) b g : EReal) := by
  unfold res_main_call3_v5
  pointwise
  simp only [value V h, chan_eq]
  exact congrArg (_ - ·) (mean_eq (args V) b g)

theorem count_pos : 0 < PassB.count := by
  rw [Group.count_def]
  exact EReal.coe_pos.mpr (by norm_num)

theorem grp_eq (o : Fin 128) : (⟨o.val / 64, by omega⟩ : Fin 2) = PassB.grp o := by
  unfold PassB.grp
  split <;> exact Fin.ext (by simp; omega)

theorem chan_grp (o : Fin 128) : PassB.chan (PassB.grp o) ⟨o.val % 64, by omega⟩ = o := by
  rw [← grp_eq]
  exact Fin.ext (by simp only [PassB.chan]; omega)

theorem normed (h : (args V).Tame) (b : Fin 2) (o : Fin 128) (k : Fin 30) (n : Fin 4096) :
    (res_main_v106 V : FVec Ideal S2x128x30x4096 .f32) (ix4 b o k n) = Group.normed (args V) b o n k := by
  unfold res_main_v106
  pointwise
  simp only [value V h, dev V h, count_eq, chan_eq, if_pos count_pos, grp_eq, chan_grp, mean_eq, var_eq]
  rfl

theorem peaks (x : FVec Ideal S2x128x30x4096 .f32) (b : Fin 2) (o : Fin 128) (n : Fin 4096) :
    Host.reduce FloatOps.maximumf x (constant S_ .f32 0xFF800000#32) reducesTo_S2x128x30x4096_S2x128x4096_d2 h_S_ (ix3 b o n)
      = Finset.univ.sup fun k => x (ix4 b o k n) := by
  pointwise
  rw [negInf_def]
  rfl

/-- The rectifier on normed values, and the greatest of a point's thirty. -/
def rectified (x : FVec Ideal S2x128x30x4096 .f32) : FVec Ideal S2x128x4096 .f32 :=
  Host.reduce FloatOps.maximumf (select (cmpf .oge x (broadcastInDim S2x128x30x4096 ![] bcast_S_S2x128x30x4096 (constant S_ .f32 0x00000000#32))) x (mulf (broadcastInDim S2x128x30x4096 ![] bcast_S_S2x128x30x4096 (constant S_ .f32 0x3E4CCCCD#32)) x)) (constant S_ .f32 0xFF800000#32) reducesTo_S2x128x30x4096_S2x128x4096_d2 h_S_

/-- The last layer: of the attended channels `y`, the features `f`, the weights `w` and the bias `v`. -/
def last (y : FVec Ideal S2x128x4096 .f32) (f : FVec Ideal S2x4096x128 .f32) (w : FVec Ideal S3x256 .f32) (v : FVec Ideal S3 .f32) : FVec Ideal S2x3x4096 .f32 :=
  addf (transpose S2x3x4096 [0, 2, 1] (Host.dotGeneral dot_S2x256x4096_S3x256_S2x4096x3_1_1_02_0_n_n none (concatenate S2x256x4096 1 [⟨S2x128x4096, y⟩, ⟨S2x128x4096, (transpose S2x128x4096 [0, 2, 1] f transposes_S2x4096x128_S2x128x4096_0_2_1)⟩] concatenates_S2x128x4096_S2x128x4096_S2x256x4096_d1) w) transposes_S2x4096x3_S2x3x4096_0_2_1) (broadcastInDim S2x3x4096 ![0, 1, 2] bcast_S1x3x1_S2x3x4096_0_1_2 (broadcastInDim S1x3x1 ![1] bcast_S3_S1x3x1_1 v))

theorem rectified_apply (x : FVec Ideal S2x128x30x4096 .f32) (b : Fin 2) (o : Fin 128) (n : Fin 4096) :
    rectified x (ix3 b o n) = Finset.univ.sup fun k => Norm.leaky PassB.slope (x (ix4 b o k n)) := by
  unfold rectified
  rw [peaks]
  refine Finset.sup_congr rfl fun k _ => ?_
  pointwise
  rfl

/-- A point's attended channel, as the reference computes it. -/
theorem attended (h : (args V).Tame) (b : Fin 2) (o : Fin 128) (n : Fin 4096) :
    rectified (res_main_v106 V) (ix3 b o n) = Arrays.attended (args V) b o n := by
  rw [rectified_apply, Group.attended_eq h]
  exact Finset.sup_congr rfl fun k _ => congrArg (Norm.leaky PassB.slope) (normed V h b o k n)

theorem last_apply (y : FVec Ideal S2x128x4096 .f32) (f : FVec Ideal S2x4096x128 .f32) (w : FVec Ideal S3x256 .f32) (v : FVec Ideal S3 .f32)
    (b : Fin 2) (r : Fin 3) (n : Fin 4096) :
    last y f w v (ix3 b r n) = ∑ o, w (ix2 r (left o)) * y (ix3 b o n) + ∑ i, w (ix2 r (right i)) * f (ix3 b n i) + v (ix1 r) := by
  unfold last
  pointwise
  exact congrArg₂ _ (congrArg₂ _ (Finset.sum_congr rfl fun o _ => mul_comm _ _) (Finset.sum_congr rfl fun i _ => mul_comm _ _)) rfl

/-- The reference's result. -/
theorem result (h : (args V).Tame) :
    last (rectified (res_main_v106 V)) (V (Proc.devRef .tc main_arg1)) (V (Proc.devRef .tc main_arg8)) (V (Proc.devRef .tc main_arg9))
      = fun j => (args V).out (Arrays.attended (args V)) (j 0) (j 1) (j 2) := by
  funext j
  obtain ⟨b, r, n, rfl⟩ : ∃ (b : Fin 2) (r : Fin 3) (n : Fin 4096), j = ix3 b r n := ⟨j 0, j 1, j 2, ValueIdx.eq_ix3 j⟩
  rw [last_apply]
  simp only [attended V h]
  rfl

end Cert.Reads
-- ==== Proof.lean ====
/-
  THE CERTIFICATE. The frames are those of the generated launches (of the reference, of its straight-line run), the
  rewrite's statement is the rule's, and the value claim meets in the middle: `Arrays.result` reads the kernel's result
  and `Reads.result` the reference's, both as `Args.out (attended …)` of the arguments at their coordinates.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Tame
public import proofs.«01_k».proof.Proof.KernelRun
public import proofs.«01_k».proof.Proof.Region1
public import proofs.«01_k».proof.Proof.Output
public import Idealize.ShloMosaic.Adequacy
public import Idealize.ShloMosaic.Init

@[expose] public section

noncomputable section

namespace Cert.Proof

open Idealize.ShloMosaic Idealize.ShloMosaic.TcCoe Idealize.ShloMosaic.StableHlo Idealize.SL.Sem Cert.Global

/-- The reference's run leaves the arguments and, as it declares no semaphore, every counter at zero. -/
theorem reference_frame : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The kernel's run, of its result and its arguments. -/
theorem kernel_run (m : (ℓ : Loc Cert.KernelIdeal.nD Cert.KernelIdeal.τ Cert.KernelIdeal.sig) → Buf (Elt Ideal) ℓ) (ρ : Dev Cert.KernelIdeal.nD → PrngReg)
    (hm : ∀ c, (Host.args m c).Tame) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      (r.2.mem (c.tc.loc Cert.KernelIdeal.main_v60) : FVec Ideal Cert.KernelIdeal.S2x3x4096 .f32)
        = (fun j => (Host.args m c).out (Arrays.attended (Host.args m c)) (j 0) (j 1) (j 2))
      ∧ r.2.mem (c.tc.loc Cert.KernelIdeal.main_arg0) = m (c.tc.loc Cert.KernelIdeal.main_arg0)
      ∧ r.2.mem (c.tc.loc Cert.KernelIdeal.main_arg1) = m (c.tc.loc Cert.KernelIdeal.main_arg1)
      ∧ r.2.mem (c.tc.loc Cert.KernelIdeal.main_arg2) = m (c.tc.loc Cert.KernelIdeal.main_arg2)
      ∧ r.2.mem (c.tc.loc Cert.KernelIdeal.main_arg3) = m (c.tc.loc Cert.KernelIdeal.main_arg3)
      ∧ r.2.mem (c.tc.loc Cert.KernelIdeal.main_arg4) = m (c.tc.loc Cert.KernelIdeal.main_arg4)
      ∧ r.2.mem (c.tc.loc Cert.KernelIdeal.main_arg5) = m (c.tc.loc Cert.KernelIdeal.main_arg5)
      ∧ r.2.mem (c.tc.loc Cert.KernelIdeal.main_arg6) = m (c.tc.loc Cert.KernelIdeal.main_arg6)
      ∧ r.2.mem (c.tc.loc Cert.KernelIdeal.main_arg7) = m (c.tc.loc Cert.KernelIdeal.main_arg7)
      ∧ r.2.mem (c.tc.loc Cert.KernelIdeal.main_arg8) = m (c.tc.loc Cert.KernelIdeal.main_arg8)
      ∧ r.2.mem (c.tc.loc Cert.KernelIdeal.main_arg9) = m (c.tc.loc Cert.KernelIdeal.main_arg9)) :=
  (θ_run Cert.KernelIdeal.defs _ _).mono
    (fun r h c => ⟨(h c _ (Cert.KernelIdeal.Gen.mem_uc Cert.KernelIdeal.main_v60 (by decide))).trans (Arrays.result ρ (hm c)),
      (h c _ (Cert.KernelIdeal.Gen.mem_uc Cert.KernelIdeal.main_arg0 (by decide))).trans (Cert.KernelIdeal.Gen.W9_main_arg0 m ρ c),
      (h c _ (Cert.KernelIdeal.Gen.mem_uc Cert.KernelIdeal.main_arg1 (by decide))).trans (Cert.KernelIdeal.Gen.W9_main_arg1 m ρ c),
      (h c _ (Cert.KernelIdeal.Gen.mem_uc Cert.KernelIdeal.main_arg2 (by decide))).trans (Cert.KernelIdeal.Gen.W9_main_arg2 m ρ c),
      (h c _ (Cert.KernelIdeal.Gen.mem_uc Cert.KernelIdeal.main_arg3 (by decide))).trans (Cert.KernelIdeal.Gen.W9_main_arg3 m ρ c),
      (h c _ (Cert.KernelIdeal.Gen.mem_uc Cert.KernelIdeal.main_arg4 (by decide))).trans (Cert.KernelIdeal.Gen.W9_main_arg4 m ρ c),
      (h c _ (Cert.KernelIdeal.Gen.mem_uc Cert.KernelIdeal.main_arg5 (by decide))).trans (Cert.KernelIdeal.Gen.W9_main_arg5 m ρ c),
      (h c _ (Cert.KernelIdeal.Gen.mem_uc Cert.KernelIdeal.main_arg6 (by decide))).trans (Cert.KernelIdeal.Gen.W9_main_arg6 m ρ c),
      (h c _ (Cert.KernelIdeal.Gen.mem_uc Cert.KernelIdeal.main_arg7 (by decide))).trans (Cert.KernelIdeal.Gen.W9_main_arg7 m ρ c),
      (h c _ (Cert.KernelIdeal.Gen.mem_uc Cert.KernelIdeal.main_arg8 (by decide))).trans (Cert.KernelIdeal.Gen.W9_main_arg8 m ρ c),
      (h c _ (Cert.KernelIdeal.Gen.mem_uc Cert.KernelIdeal.main_arg9 (by decide))).trans (Cert.KernelIdeal.Gen.W9_main_arg9 m ρ c)⟩)
    (KernelRun.buffers m ρ)

/-- Memories that agree on the arguments give the two programs the same arguments. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' (c.tc.loc Cert.ReferenceIdeal.main_arg0) = m (c.tc.loc Cert.KernelIdeal.main_arg0))
    (h1 : m' (c.tc.loc Cert.ReferenceIdeal.main_arg1) = m (c.tc.loc Cert.KernelIdeal.main_arg1))
    (h2 : m' (c.tc.loc Cert.ReferenceIdeal.main_arg2) = m (c.tc.loc Cert.KernelIdeal.main_arg2))
    (h3 : m' (c.tc.loc Cert.ReferenceIdeal.main_arg3) = m (c.tc.loc Cert.KernelIdeal.main_arg3))
    (h4 : m' (c.tc.loc Cert.ReferenceIdeal.main_arg4) = m (c.tc.loc Cert.KernelIdeal.main_arg4))
    (h5 : m' (c.tc.loc Cert.ReferenceIdeal.main_arg5) = m (c.tc.loc Cert.KernelIdeal.main_arg5))
    (h6 : m' (c.tc.loc Cert.ReferenceIdeal.main_arg6) = m (c.tc.loc Cert.KernelIdeal.main_arg6))
    (h7 : m' (c.tc.loc Cert.ReferenceIdeal.main_arg7) = m (c.tc.loc Cert.KernelIdeal.main_arg7))
    (h8 : m' (c.tc.loc Cert.ReferenceIdeal.main_arg8) = m (c.tc.loc Cert.KernelIdeal.main_arg8))
    (h9 : m' (c.tc.loc Cert.ReferenceIdeal.main_arg9) = m (c.tc.loc Cert.KernelIdeal.main_arg9)) :
    Reads.args (launchContents m' c) = Host.args m c := by
  refine (Args.mk.injEq ..).mpr ⟨?_, ?_, ?_, ?_, ?_, ?_, ?_, ?_, ?_, ?_⟩
  · exact congrArg (fun (x : FVec Ideal Cert.KernelIdeal.S2x4096x3 .f32) b i j => x (ix3 b i j)) h0
  · exact congrArg (fun (x : FVec Ideal Cert.KernelIdeal.S2x4096x128 .f32) b i j => x (ix3 b i j)) h1
  · exact congrArg (fun (x : FVec Ideal Cert.KernelIdeal.S2x4096x128 .f32) b i j => x (ix3 b i j)) h2
  · exact congrArg (fun (x : FVec Ideal Cert.KernelIdeal.S30x30 .f32) b i => x (ix2 b i)) h3
  · exact congrArg (fun (x : FVec Ideal Cert.KernelIdeal.S30x30 .f32) b i => x (ix2 b i)) h4
  · exact congrArg (fun (x : FVec Ideal Cert.KernelIdeal.S128x131 .f32) b i => x (ix2 b i)) h5
  · exact congrArg (fun (x : FVec Ideal Cert.KernelIdeal.S128 .f32) b => x (ix1 b)) h6
  · exact congrArg (fun (x : FVec Ideal Cert.KernelIdeal.S128 .f32) b => x (ix1 b)) h7
  · exact congrArg (fun (x : FVec Ideal Cert.KernelIdeal.S3x256 .f32) b i => x (ix2 b i)) h8
  · exact congrArg (fun (x : FVec Ideal Cert.KernelIdeal.S3 .f32) b => x (ix1 b)) h9

theorem algebraic : Cert.algebraic_KernelIdeal_ReferenceIdeal_pre_tame := by
  intro m ρ m' ρ' hpre hagree
  have hm := Cert.Pre_tame.decode m hpre
  refine ⟨fun c j => (Host.args m c).out (Arrays.attended (Host.args m c)) (j 0) (j 1) (j 2), kernel_run m ρ hm, ?_⟩
  refine (θ_run Cert.ReferenceIdeal.defs _ _).mono (fun r h c => ⟨(h c).1.trans ?_, (h c).2⟩) (Cert.ReferenceIdeal.Value.run (F := Ideal) m' ρ')
  obtain ⟨h0, h1, h2, h3, h4, h5, h6, h7, h8, h9⟩ := hagree c
  have e := args_eq m m' c h0 h1 h2 h3 h4 h5 h6 h7 h8 h9
  have t := Reads.result (launchContents m' c) (e ▸ hm c)
  rw [e] at t
  exact t

theorem claim : Cert.Claim :=
  ⟨Cert.Kernel.Gen.facts, Cert.KernelIdeal.Gen.facts, Cert.ReferenceIdeal.Gen.facts, Cert.Pre_tame.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    IdealRules.named_const.statement _ "mask" .f32 _ ⊥ rfl,
    algebraic⟩

end Cert.Proof

end
